-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x1024x512 : Shape := ⟨3, ![2, 1024, 512]⟩
abbrev S10 : Shape := ⟨1, ![10]⟩
abbrev S2 : Shape := ⟨1, ![2]⟩
abbrev S_ : Shape := ⟨0, ![]⟩
abbrev S1 : Shape := ⟨1, ![1]⟩
abbrev S512x4096 : Shape := ⟨2, ![512, 4096]⟩
abbrev S1024x512 : Shape := ⟨2, ![1024, 512]⟩
abbrev S1x1024x512 : Shape := ⟨3, ![1, 1024, 512]⟩
abbrev S256x4096 : Shape := ⟨2, ![256, 4096]⟩
abbrev S192x4096 : Shape := ⟨2, ![192, 4096]⟩
abbrev S64x4096 : Shape := ⟨2, ![64, 4096]⟩
abbrev S512x512 : Shape := ⟨2, ![512, 512]⟩
abbrev S1x512x512 : Shape := ⟨3, ![1, 512, 512]⟩
abbrev S256x512 : Shape := ⟨2, ![256, 512]⟩
abbrev S1x256x512 : Shape := ⟨3, ![1, 256, 512]⟩
abbrev S192x512 : Shape := ⟨2, ![192, 512]⟩
abbrev S1x192x512 : Shape := ⟨3, ![1, 192, 512]⟩
abbrev S64x512 : Shape := ⟨2, ![64, 512]⟩
abbrev S1x64x512 : Shape := ⟨3, ![1, 64, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .f32⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4096x2048, .bf16⟩
  | .local _ .vmem, ⟨5, _⟩ => ⟨S4096x512, .f32⟩
  | .local _ .vmem, ⟨6, _⟩ => ⟨S2x1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v30 : BitVec 32 := Scalar.muli v24 c1_i32_21
  let v31 : BitVec 32 := Scalar.addi c0_i32_22 v30
  v31.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v38 : BitVec 32 := Scalar.muli v13 c1_i32_29
  let v39 : BitVec 32 := Scalar.addi c0_i32_30 v38
  v39.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v46 : BitVec 32 := Scalar.muli v24 c1_i32_37
  let v47 : BitVec 32 := Scalar.addi c0_i32_38 v46
  v47.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v54 : BitVec 32 := Scalar.muli v13 c1_i32_43
  let v55 : BitVec 32 := Scalar.addi c0_i32_44 v54
  v55.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v79 : BitVec 32 := Scalar.muli v2 c1024_i32
  let c0_i32_65 : BitVec 32 := 0#32
  ![v79.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_82 : BitVec 32 := 1024#32
  let v102 : BitVec 32 := Scalar.muli v2 c1024_i32_82
  let c512_i32_85 : BitVec 32 := 512#32
  ![v102.toNat, 512]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_108 : BitVec 32 := 1024#32
  let v130 : BitVec 32 := Scalar.muli v2 c1024_i32_108
  let c1024_i32_111 : BitVec 32 := 1024#32
  ![v130.toNat, 1024]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_133 : BitVec 32 := 1024#32
  let v158 : BitVec 32 := Scalar.muli v2 c1024_i32_133
  let c1536_i32_136 : BitVec 32 := 1536#32
  ![v158.toNat, 1536]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_149 : BitVec 32 := 1#32
  let v170 : BitVec 32 := Scalar.muli v24 c1_i32_149
  let v171 : BitVec 32 := Scalar.addi c0_i32_150 v170
  v171.toNat
def k0_dev8 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_156 : BitVec 32 := 1#32
  let v178 : BitVec 32 := Scalar.muli v24 c1_i32_156
  let v179 : BitVec 32 := Scalar.addi c0_i32_157 v178
  v179.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_162 : BitVec 32 := 1#32
  let v186 : BitVec 32 := Scalar.muli v24 c1_i32_162
  let v187 : BitVec 32 := Scalar.addi c0_i32_163 v186
  v187.toNat
def k0_off5 (d0 : Dev nD) (c0_i32_181 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_180 : BitVec 32 := 1024#32
  let v208 : BitVec 32 := Scalar.muli v13 c1024_i32_180
  let v209 : BitVec 32 := Scalar.addi v208 c0_i32_181
  let c0_i32_184 : BitVec 32 := 0#32
  ![v209.toNat, 0]
def k0_off6 (d0 : Dev nD) (c0_i32_201 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_200 : BitVec 32 := 1024#32
  let v229 : BitVec 32 := Scalar.muli v13 c1024_i32_200
  let v230 : BitVec 32 := Scalar.addi v229 c0_i32_201
  let c512_i32_204 : BitVec 32 := 512#32
  ![v230.toNat, 512]
def k0_off7 (d0 : Dev nD) (c0_i32_221 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_220 : BitVec 32 := 1024#32
  let v250 : BitVec 32 := Scalar.muli v13 c1024_i32_220
  let v251 : BitVec 32 := Scalar.addi v250 c0_i32_221
  let c1024_i32_224 : BitVec 32 := 1024#32
  ![v251.toNat, 1024]
def k0_off8 (d0 : Dev nD) (c0_i32_241 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_240 : BitVec 32 := 1024#32
  let v271 : BitVec 32 := Scalar.muli v13 c1024_i32_240
  let v272 : BitVec 32 := Scalar.addi v271 c0_i32_241
  let c1536_i32_244 : BitVec 32 := 1536#32
  ![v272.toNat, 1536]
def k0_off9 (d0 : Dev nD) (c0_i32_269 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_268 : BitVec 32 := 1024#32
  let v298 : BitVec 32 := Scalar.muli v24 c1024_i32_268
  let v299 : BitVec 32 := Scalar.addi v298 c0_i32_269
  let c0_i32_272 : BitVec 32 := 0#32
  ![v299.toNat, 0]
def k0_off10 (d0 : Dev nD) (c0_i32_289 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_288 : BitVec 32 := 1024#32
  let v319 : BitVec 32 := Scalar.muli v24 c1024_i32_288
  let v320 : BitVec 32 := Scalar.addi v319 c0_i32_289
  let c512_i32_292 : BitVec 32 := 512#32
  ![v320.toNat, 512]
def k0_off11 (d0 : Dev nD) (c0_i32_309 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_308 : BitVec 32 := 1024#32
  let v340 : BitVec 32 := Scalar.muli v24 c1024_i32_308
  let v341 : BitVec 32 := Scalar.addi v340 c0_i32_309
  let c1024_i32_312 : BitVec 32 := 1024#32
  ![v341.toNat, 1024]
def k0_off12 (d0 : Dev nD) (c0_i32_329 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_328 : BitVec 32 := 1024#32
  let v361 : BitVec 32 := Scalar.muli v24 c1024_i32_328
  let v362 : BitVec 32 := Scalar.addi v361 c0_i32_329
  let c1536_i32_332 : BitVec 32 := 1536#32
  ![v362.toNat, 1536]
def k0_dev10 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_432 : BitVec 32 := 1#32
  let v464 : BitVec 32 := Scalar.muli v13 c1_i32_432
  let v465 : BitVec 32 := Scalar.addi c0_i32_433 v464
  v465.toNat
def k0_dev11 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_439 : BitVec 32 := 1#32
  let v472 : BitVec 32 := Scalar.muli v13 c1_i32_439
  let v473 : BitVec 32 := Scalar.addi c0_i32_440 v472
  v473.toNat
def k0_dev12 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_445 : BitVec 32 := 1#32
  let v480 : BitVec 32 := Scalar.muli v13 c1_i32_445
  let v481 : BitVec 32 := Scalar.addi c0_i32_446 v480
  v481.toNat
def k0_off13 (d0 : Dev nD) (c0_i32_559 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_558 : BitVec 32 := 1024#32
  let v603 : BitVec 32 := Scalar.muli v582 c1024_i32_558
  let v604 : BitVec 32 := Scalar.addi v603 c0_i32_559
  let c0_i32_562 : BitVec 32 := 0#32
  ![v604.toNat, 0]
def k0_off14 (d0 : Dev nD) (c0_i32_579 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_578 : BitVec 32 := 1024#32
  let v624 : BitVec 32 := Scalar.muli v582 c1024_i32_578
  let v625 : BitVec 32 := Scalar.addi v624 c0_i32_579
  let c512_i32_582 : BitVec 32 := 512#32
  ![v625.toNat, 512]
def k0_off15 (d0 : Dev nD) (c0_i32_599 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_598 : BitVec 32 := 1024#32
  let v645 : BitVec 32 := Scalar.muli v582 c1024_i32_598
  let v646 : BitVec 32 := Scalar.addi v645 c0_i32_599
  let c1024_i32_602 : BitVec 32 := 1024#32
  ![v646.toNat, 1024]
def k0_off16 (d0 : Dev nD) (c0_i32_619 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_618 : BitVec 32 := 1024#32
  let v666 : BitVec 32 := Scalar.muli v582 c1024_i32_618
  let v667 : BitVec 32 := Scalar.addi v666 c0_i32_619
  let c1536_i32_622 : BitVec 32 := 1536#32
  ![v667.toNat, 1536]
def k0_off17 (d0 : Dev nD) (c256_i32_734 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_733 : BitVec 32 := 1024#32
  let v783 : BitVec 32 := Scalar.muli v582 c1024_i32_733
  let v784 : BitVec 32 := Scalar.addi v783 c256_i32_734
  let c0_i32_737 : BitVec 32 := 0#32
  ![v784.toNat, 0]
def k0_off18 (d0 : Dev nD) (c256_i32_754 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_753 : BitVec 32 := 1024#32
  let v804 : BitVec 32 := Scalar.muli v582 c1024_i32_753
  let v805 : BitVec 32 := Scalar.addi v804 c256_i32_754
  let c512_i32_757 : BitVec 32 := 512#32
  ![v805.toNat, 512]
def k0_off19 (d0 : Dev nD) (c256_i32_774 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_773 : BitVec 32 := 1024#32
  let v825 : BitVec 32 := Scalar.muli v582 c1024_i32_773
  let v826 : BitVec 32 := Scalar.addi v825 c256_i32_774
  let c1024_i32_777 : BitVec 32 := 1024#32
  ![v826.toNat, 1024]
def k0_off20 (d0 : Dev nD) (c256_i32_794 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_793 : BitVec 32 := 1024#32
  let v846 : BitVec 32 := Scalar.muli v582 c1024_i32_793
  let v847 : BitVec 32 := Scalar.addi v846 c256_i32_794
  let c1536_i32_797 : BitVec 32 := 1536#32
  ![v847.toNat, 1536]
def k0_off21 (d0 : Dev nD) (c448_i32_908 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_907 : BitVec 32 := 1024#32
  let v963 : BitVec 32 := Scalar.muli v582 c1024_i32_907
  let v964 : BitVec 32 := Scalar.addi v963 c448_i32_908
  let c0_i32_911 : BitVec 32 := 0#32
  ![v964.toNat, 0]
def k0_off22 (d0 : Dev nD) (c448_i32_928 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_927 : BitVec 32 := 1024#32
  let v984 : BitVec 32 := Scalar.muli v582 c1024_i32_927
  let v985 : BitVec 32 := Scalar.addi v984 c448_i32_928
  let c512_i32_931 : BitVec 32 := 512#32
  ![v985.toNat, 512]
def k0_off23 (d0 : Dev nD) (c448_i32_948 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_947 : BitVec 32 := 1024#32
  let v1005 : BitVec 32 := Scalar.muli v582 c1024_i32_947
  let v1006 : BitVec 32 := Scalar.addi v1005 c448_i32_948
  let c1024_i32_951 : BitVec 32 := 1024#32
  ![v1006.toNat, 1024]
def k0_off24 (d0 : Dev nD) (c448_i32_968 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_530 : BitVec 32 := 2#32
  let v572 : BitVec 32 := Scalar.addi v2 c2_i32_530
  let c4_i32_531 : BitVec 32 := 4#32
  let c0_i32_532 : BitVec 32 := 0#32
  let v573 : BitVec 1 := Scalar.cmpi .eq c4_i32_531 c0_i32_532
  let c1_i32_533 : BitVec 32 := 1#32
  let v574 : BitVec 32 := Scalar.select v573 c1_i32_533 c4_i32_531
  let v575 : BitVec 32 := Scalar.remsi v572 v574
  let c0_i32_535 : BitVec 32 := 0#32
  let v577 : BitVec 1 := Scalar.cmpi .slt v575 c0_i32_535
  let c0_i32_536 : BitVec 32 := 0#32
  let v578 : BitVec 1 := Scalar.cmpi .slt v574 c0_i32_536
  let v579 : BitVec 1 := Scalar.xori v577 v578
  let c0_i32_534 : BitVec 32 := 0#32
  let v576 : BitVec 1 := Scalar.cmpi .ne v575 c0_i32_534
  let v580 : BitVec 1 := Scalar.andi v579 v576
  let v581 : BitVec 32 := Scalar.addi v575 v574
  let v582 : BitVec 32 := Scalar.select v580 v581 v575
  let c1024_i32_967 : BitVec 32 := 1024#32
  let v1026 : BitVec 32 := Scalar.muli v582 c1024_i32_967
  let v1027 : BitVec 32 := Scalar.addi v1026 c448_i32_968
  let c1536_i32_971 : BitVec 32 := 1536#32
  ![v1027.toNat, 1536]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 2
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S4096x8192, .bf16⟩
  | .local _ .vmem, ⟨0, _⟩ => ⟨S4096x8192, .f32⟩
  | .local _ .vmem, ⟨1, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "hi" => some ⊤
  | "lo" => some ⊥
  | _ => none

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Own.lean ====
/-
# Owning a set of a view's elements under a relation

`own c v A q R`: core `c` holds the elements of the view `v` at the indices `A`, at share `q`, and each element `x` it
holds at an index `p` satisfies `R p x`. The rules below are those of the operations of the kernel, each said of such an
assertion: what a load reads satisfies `R`, a store changes the relation on the rectangle it writes, a transfer carries
the source's relation to its destination.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × (UB × Counters)

local notation "𝕄" => MT nD τ sig Unit (Elt F) ℕ UU ℕ

abbrev 𝒱₀ : Variants := Variants.none

variable {sp : Space} {s s' : Shape} {e : EltTy}

/-- The elements of `v` at the indices `A`, held by `c` at share `q`, each related to its index by `R`. -/
def own (c : Dev nD) (v : View sig .tc sp s e) (A : Finset s.Idx) (q : PosShare TreeShare) (R : s.Idx → Elt F e → Prop) : sProp 𝕄 :=
  iprop(∃ f : Buf (Elt F) (v.loc (c : Thread nD τ)), (v.loc (c : Thread nD τ) ↦[v.setOn A]{q} f) ∗ ⌜∀ p ∈ A, R p (v.read (Elt F) f p)⌝)

instance own_storable (c : Dev nD) (v : View sig .tc sp s e) (A : Finset s.Idx) (q : PosShare TreeShare) (R : s.Idx → Elt F e → Prop) :
    BI.Storable (upEmb : UEmb _ 𝕄) (own c v A q R) := by unfold own; infer_instance

section Laws
variable (c : Dev nD) (v : View sig .tc sp s e) {A B C : Finset s.Idx} {q q₁ q₂ : PosShare TreeShare} {R R' : s.Idx → Elt F e → Prop}

theorem own_mono (h : ∀ p ∈ A, ∀ x, R p x → R' p x) : own c v A q R ⊢ own c v A q R' := by
  unfold own
  iintro ⟨%f, Hf, %hf⟩
  iexists f
  isplitl [Hf]; · iexact Hf
  ipureintro; exact fun p hp => h p hp _ (hf p hp)

theorem own_split (hA : A = B ∪ C) (hd : Disjoint B C) : own c v A q R ⊢ iprop(own c v B q R ∗ own c v C q R) := by
  subst hA
  unfold own
  have hs : v.setOn (B ∪ C) = v.setOn B ∪ v.setOn C := Finset.map_union _ _
  have hd' : Disjoint (v.setOn B) (v.setOn C) := (Finset.disjoint_map _).mpr hd
  iintro ⟨%f, Hf, %hf⟩
  rw [hs]
  ihave H := (pointsTo_union hd').1 $$ Hf
  icases H with ⟨H1, H2⟩
  isplitl [H1]
  · iexists f
    isplitl [H1]; · iexact H1
    ipureintro; exact fun p hp => hf p (Finset.mem_union_left _ hp)
  · iexists f
    isplitl [H2]; · iexact H2
    ipureintro; exact fun p hp => hf p (Finset.mem_union_right _ hp)

theorem own_join (hA : A = B ∪ C) (hd : Disjoint B C) : iprop(own c v B q R ∗ own c v C q R) ⊢ own c v A q R := by
  subst hA
  unfold own
  have hs : v.setOn (B ∪ C) = v.setOn B ∪ v.setOn C := Finset.map_union _ _
  have hd' : Disjoint (v.setOn B) (v.setOn C) := (Finset.disjoint_map _).mpr hd
  iintro ⟨⟨%f, Hf, %hf⟩, ⟨%g, Hg, %hg⟩⟩
  ihave H := (pointsTo_join (ℓ := v.loc (c : Thread nD τ)) (I := v.setOn B) (J := v.setOn C) hd') $$ [Hf Hg]
  · isplitl [Hf]; · iexact Hf
    iexact Hg
  iexists (v.setOn C).piecewise g f
  rw [hs]
  isplitl [H]; · iexact H
  ipureintro
  intro p hp
  by_cases hc : p ∈ C
  · rw [View.read_congr_at (g := g) p (Finset.piecewise_eq_of_mem _ _ _ (v.mem_setOn.mpr hc))]
    exact hg p hc
  · rw [View.read_congr_at (g := f) p (Finset.piecewise_eq_of_notMem _ _ _ (fun h => hc (v.mem_setOn.mp h)))]
    exact hf p ((Finset.mem_union.mp hp).resolve_right hc)

theorem own_share (hq : q ∈ (q₁ ·? q₂)) : own c v A q R ⊢ iprop(own c v A q₁ R ∗ own c v A q₂ R) := by
  unfold own
  iintro ⟨%f, Hf, %hf⟩
  ihave H := (pointsTo_share hq).1 $$ Hf
  icases H with ⟨H1, H2⟩
  isplitl [H1]
  · iexists f
    isplitl [H1]; · iexact H1
    ipureintro; exact hf
  · iexists f
    isplitl [H2]; · iexact H2
    ipureintro; exact hf

/-- Two shares of the same elements make the sum of the shares: they agree. -/
theorem own_unshare (hq : q ∈ (q₁ ·? q₂)) : iprop(own c v A q₁ R ∗ own c v A q₂ R) ⊢ own c v A q R := by
  unfold own
  iintro ⟨⟨%f, Hf, %hf⟩, ⟨%g, Hg, %hg⟩⟩
  ihave %hag := (pointsTo_agree (I := v.setOn A) (J := v.setOn A) (q₁ := q₁) (q₂ := q₂) (f := f) (g := g)) $$ [Hf Hg]
  · isplitl [Hf]; · iexact Hf
    iexact Hg
  ihave Hg := (Entails.of_eq (pointsTo_congr (f := g) (g := f) (fun i hi => ((hag i (Finset.mem_inter.mpr ⟨hi, hi⟩)).1).symm))) $$ Hg
  iexists f
  isplitl [Hf Hg]
  · iapply (pointsTo_share hq).2
    isplitl [Hf]; · iexact Hf
    iexact Hg
  ipureintro; exact hf

/-- A rectangle of a view, held whole, is the view held at the rectangle's indices. -/
theorem own_slice (r : Rect s) (h : A = r.set) :
    own c (v.slice r) Finset.univ q (fun x y => R (r.emb x) y) = own c v A q R := by
  subst h
  unfold own
  have hs : (v.slice r).setOn Finset.univ = v.setOn r.set := by
    rw [View.setOn_univ, View.set_slice]; rfl
  refine congrArg _ (funext fun f => ?_)
  rw [hs]
  refine congrArg (fun P => iprop((v.loc (c : Thread nD τ) ↦[v.setOn r.set]{q} f) ∗ ⌜P⌝)) (propext ⟨fun hf p hp => ?_, fun hf x _ => ?_⟩)
  · rw [← Rect.map_emb_univ] at hp
    obtain ⟨x, -, rfl⟩ := Finset.mem_map.mp hp
    exact hf x (Finset.mem_univ _)
  · exact hf (r.emb x) (by rw [← Rect.map_emb_univ]; exact Finset.mem_map_of_mem _ (Finset.mem_univ x))

/-- A view re-indexed along a reshape holds the same elements. -/
theorem own_reshape (h : s'.numel = s.numel) :
    own c (v.reshape s' h) Finset.univ q (fun x y => R (Shape.reshapeEquiv h x) y) = own c v Finset.univ q R := by
  unfold own
  have hs : (v.reshape s' h).setOn Finset.univ = v.setOn Finset.univ := by
    rw [View.setOn_univ, View.setOn_univ, View.set_reshape]
  refine congrArg _ (funext fun f => ?_)
  rw [hs]
  refine congrArg (fun P => iprop((v.loc (c : Thread nD τ) ↦[v.setOn Finset.univ]{q} f) ∗ ⌜P⌝)) (propext ⟨fun hf p hp => ?_, fun hf x _ => ?_⟩)
  · have := hf ((Shape.reshapeEquiv h).symm p) (Finset.mem_univ _)
    have he : (v.reshape s' h).read (Elt F) f ((Shape.reshapeEquiv h).symm p) = v.read (Elt F) f p := by
      show v.read (Elt F) f (Shape.reshapeEquiv h ((Shape.reshapeEquiv h).symm p)) = _
      rw [Equiv.apply_symm_apply]
    rw [he, Equiv.apply_symm_apply] at this
    exact this
  · exact hf _ (Finset.mem_univ _)

end Laws

/-! ## The operations -/

section Ops
variable (defs : Defs nD τ sig (Elt F) Λ₀) (c : Dev nD)
variable {cs : CoreSpace} {m : Memref sig .tc cs s e} {r : Rect s} {A : Finset s.Idx} {q : PosShare TreeShare} {R R' : s.Idx → Elt F e → Prop}
variable {α : Type}

/-- A load of a rectangle held: what is read satisfies the relation. -/
theorem wp_own_load {hl : m.view.LoadsAt r.toLoadRect} {k : (r.shape.Idx → Elt F e) → Prog (TpuEff nD τ sig (Elt F) Λ₀ .tc) α} {Q : α → sProp 𝕄} (hA : r.set ⊆ A) :
    own c m.view A q R
      ⊢ iprop((∀ x : r.shape.Idx → Elt F e, ⌜∀ y, R (r.emb y) (x y)⌝ -∗ own c m.view A q R -∗ wp frame (wpE defs 𝒱₀ (c : Thread nD τ) none) Set.univ (k x) Q)
        -∗ wp frame (wpE defs 𝒱₀ (c : Thread nD τ) none) Set.univ (.op (.load m r.toLoadRect hl) k) Q) := by
  unfold own
  iintro ⟨%f, Hf, %hf⟩ HK
  iapply (wp_load 𝒱₀ (c : Thread nD τ) none Set.univ (m := m) (r := r.toLoadRect) (S := m.view.setOn A) (Finset.map_subset_map.mpr hA)) $$ Hf
  iintro Hf
  iapply HK $$ [] [Hf]
  · ipureintro; exact fun y => hf _ (hA (by rw [← Rect.map_emb_univ]; exact Finset.mem_map_of_mem _ (Finset.mem_univ y)))
  · iexists f
    isplitl [Hf]; · iexact Hf
    ipureintro; exact hf

/-- A whole store through a rectangle held: the relation changes on the rectangle. -/
theorem wp_own_store {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} (hA : r.set ⊆ A)
    (hin : ∀ x, R' (r.emb x) (w x)) (hout : ∀ p ∈ A, p ∉ r.set → ∀ x, R p x → R' p x) :
    own c m.view A fullShare R
      ⊢ iprop((own c m.view A fullShare R' -∗ wp frame (wpE defs 𝒱₀ (c : Thread nD τ) none) Set.univ (k ⟨⟩) Q)
        -∗ wp frame (wpE defs 𝒱₀ (c : Thread nD τ) none) Set.univ (.op (.store m r w Finset.univ hx hm) k) Q) := by
  unfold own
  iintro ⟨%f, Hf, %hf⟩ HK
  iapply (wp_store 𝒱₀ (c : Thread nD τ) none Set.univ (m := m) (r := r) (Mk := Finset.univ) (S := m.view.setOn A)
    (by rw [View.setOn_univ, View.set_slice]; exact Finset.map_subset_map.mpr hA)) $$ Hf
  iintro Hf
  iapply HK
  iexists (m.access r).write (Elt F) f w Finset.univ
  isplitl [Hf]; · iexact Hf
  ipureintro
  intro p hp
  by_cases h : p ∈ r.set
  · rw [← Rect.map_emb_univ] at h
    obtain ⟨x, -, rfl⟩ := Finset.mem_map.mp h
    rw [View.read_slice_write_emb (v := m.view) r f w (Finset.mem_univ x)]
    exact hin x
  · rw [View.read_slice_write_of_not_mem (v := m.view) r f w Finset.univ (by rw [Rect.map_emb_univ]; exact h)]
    exact hout p hp h _ (hf p hp)

/-! ### Transfers -/

abbrev EC : UEmb Counters 𝕄 := (CountersIn.emb (U := UU)).trans uEmb
abbrev ER : Emb UB 𝕄 := (Emb.inl).trans embR

variable {sp' : Space} {src : Memref sig .tc sp s e} {dst : Memref sig .tc sp' s e}

/-- A local transfer is started: its delivery, at the wait, is the destination under the source's relation and the source
    back, or whatever follows from them. -/
theorem wp_own_dma {sm : SemLoc sig} {hsrc : src.view.WordExact} {hdst : dst.view.WordExact} {hsem : DmaTarget.Typed (nD := nD) (p := (c : Thread nD τ).2) sp sm (.here dst)}
    {k : PUnit → Prog (TpuEff nD τ sig (Elt F) Λ₀ .tc) α} {Q : α → sProp 𝕄} {R₀ : s.Idx → Elt F e → Prop}
    (N : ℕ) (hN : dst.view.amount sm = N) (hN0 : 0 < N) {D : sProp 𝕄}
    (hD : iprop(own c dst.view Finset.univ fullShare R ∗ own c src.view Finset.univ q R) ⊢ D) :
    iprop(own c src.view Finset.univ q R ∗ own c dst.view Finset.univ fullShare R₀ ∗ semVal ((c : Thread nD τ), sm) 0)
      ⊢ iprop((Transfers.Flight EC (c : Thread nD τ) sm () N D
            -∗ wp frame (wpE defs 𝒱₀ (c : Thread nD τ) none) Set.univ (k ⟨⟩) Q)
        -∗ wp frame (wpE defs 𝒱₀ (c : Thread nD τ) none) Set.univ (.op (.enqueueDma src (.here dst) sm hsrc hdst hsem) k) Q) := by
  iintro ⟨Hs, Hd, Hv⟩ HK
  unfold own
  icases Hs with ⟨%f, Hf, %hf⟩
  icases Hd with ⟨%g, Hg, -⟩
  iapply (Transfers.wp_dmaLocal EC 𝒱₀ (c : Thread nD τ) none () N hN hN0 (Finset.Subset.refl _)) $$ [Hf Hg Hv]
  · isplitl [Hf]; · iexact Hf
    isplitl [Hg]; · iexact Hg
    iexact Hv
  iintro HF
  iapply HK
  iapply (Transfers.Flight_mono EC (c : Thread nD τ) (?_)) $$ HF
  refine BIBase.Entails.trans ?_ hD
  unfold own
  iintro ⟨Hd, Hs⟩
  isplitl [Hd]
  · iexists _
    isplitl [Hd]; · iexact Hd
    ipureintro
    intro p hp
    rw [View.read_write_univ]
    exact hf p hp
  · iexists f
    isplitl [Hs]; · iexact Hs
    ipureintro; exact hf

/-- An addressed transfer is started under a schedule: the send cell's payload is the source lent, the receive cell's the
    destination under the source's relation. -/
theorem wp_own_send (Rd : Rounds.Schedule (GSem nD τ sig) Bool 𝕄)
    [∀ g r d, BI.Storable (upEmb : UEmb _ 𝕄) (Rd.payload g r d)] (n : Dev nD)
    {dst : Memref sig (Dev.tc n : Thread nD τ).2.kind sp' s e} {hsc : dst.view.ref.isScScratch = false} {sS sem : SemLoc sig}
    {hsrc : src.view.WordExact} {hdst : dst.view.WordExact} {hsem : DmaTarget.Typed (p := (c : Thread nD τ).2) sp sem (.remote (Dev.tc n : Thread nD τ) dst sS hsc)}
    {k : PUnit → Prog (TpuEff nD τ sig (Elt F) Λ₀ .tc) α} {Q : α → sProp 𝕄} {κ₁ κ₂ : ℕ} {R₀ : s.Idx → Elt F e → Prop}
    (hd₁ : false ∈ Rd.duties ((c : Thread nD τ), sS) 0) (hd₂ : false ∈ Rd.duties ((n : Thread nD τ), sem) 0)
    (N : ℕ) (hN : dst.view.amount sem = N)
    (hk₁ : Rd.amount ((c : Thread nD τ), sS) 0 false = N) (hk₂ : Rd.amount ((n : Thread nD τ), sem) 0 false = N)
    {O₀ : CellTallies nD τ sig Unit} (O : CellTallies nD τ sig Unit) (hO : O₀ = O + tallyAt ((n : Thread nD τ), sem) () N) {W : Waits sig Unit}
    (hpay₁ : own c src.view Finset.univ q R ⊢ Rd.payload ((c : Thread nD τ), sS) 0 false)
    (hpay₂ : own n dst.view Finset.univ fullShare R ⊢ Rd.payload ((n : Thread nD τ), sem) 0 false) :
    iprop(cellInv ER Rd κ₁ ((c : Thread nD τ), sS) ∗ cellInv ER Rd κ₂ ((n : Thread nD τ), sem)
        ∗ own c src.view Finset.univ q R ∗ own n dst.view Finset.univ fullShare R₀
        ∗ owes (c : Thread nD τ) O₀ W
        ∗ dutyTok ER ((c : Thread nD τ), sS) 0 false ∗ reached ER ((c : Thread nD τ), sS) 0
        ∗ dutyTok ER ((n : Thread nD τ), sem) 0 false ∗ reached ER ((n : Thread nD τ), sem) 0)
      ⊢ iprop(((cred (tallyAt ((c : Thread nD τ), sS) () N) ∗ owes (c : Thread nD τ) O W) -∗ wp frame (wpE defs 𝒱₀ (c : Thread nD τ) none) Set.univ (k ⟨⟩) Q)
        -∗ wp frame (wpE defs 𝒱₀ (c : Thread nD τ) none) Set.univ (.op (.enqueueDma src (.remote (Dev.tc n : Thread nD τ) dst sS hsc) sem hsrc hdst hsem) k) Q) := by
  iintro ⟨HI₁, HI₂, Hs, Hd, HO, Ht₁, Hr₁, Ht₂, Hr₂⟩ HK
  unfold own at *
  icases Hs with ⟨%f, Hf, %hf⟩
  icases Hd with ⟨%g, Hg, -⟩
  iapply (Rounds.wp_send_pointsTo 𝒱₀ ER Rd (c : Thread nD τ) none (fs := f) (fd := g) hd₁ hd₂ () () N hN hk₁ hk₂ O hO
    (Entails.trans (by
      iintro H
      iexists f
      isplitl [H]; · iexact H
      ipureintro; exact hf) hpay₁)
    (Entails.trans (by
      iintro H
      iexists _
      isplitl [H]; · iexact H
      ipureintro
      intro p hp
      rw [View.read_write_univ]
      exact hf p hp) hpay₂)) $$ [HI₁ HI₂ Hf Hg HO Ht₁ Hr₁ Ht₂ Hr₂]
  · isplitl [HI₁]; · iexact HI₁
    isplitl [HI₂]; · iexact HI₂
    isplitl [Hf]; · iexact Hf
    isplitl [Hg]; · iexact Hg
    isplitl [HO]; · iexact HO
    isplitl [Ht₁]; · iexact Ht₁
    isplitl [Hr₁]; · iexact Hr₁
    isplitl [Ht₂]; · iexact Ht₂
    iexact Hr₂
  iintro H
  iapply HK
  iexact H

end Ops

end Cert.KProof
-- ==== Proof.Geom.lean ====
/-
# The ring, and the tiles the result is stored in

The four devices stand in a ring. A device's block of the result, 4096 by 2048, is stored as 44 tiles, numbered in the
order the kernel stores them: eleven groups of four column tiles. `tileNo c i` is the number of the tile of device `c`
that holds the index `i`; a tile's rectangle is exactly the indices with its number.
-/
module

public import proofs.«01_k».proof.Proof.Own

@[expose] public section

noncomputable section

namespace Cert.KProof

open Cert.KernelIdeal Cert.KernelIdeal.Gen
open Idealize.ShloMosaic
open Idealize.ShloMosaic.TcCoe

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
/-- The device across the ring. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide

def ring : Dev nD ≃ Dev nD := ⟨nxt, prv, prv_nxt, nxt_prv⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = nxt c := by revert c; decide
theorem dev10_eq (c : Dev nD) : (⟨k0_dev10 c, k0_dev10_lt c⟩ : Dev nD) = prv c := by revert c; decide
theorem dev11_eq (c : Dev nD) : (⟨k0_dev11 c, k0_dev11_lt c⟩ : Dev nD) = prv c := by revert c; decide
theorem dev12_eq (c : Dev nD) : (⟨k0_dev12 c, k0_dev12_lt c⟩ : Dev nD) = prv c := by revert c; decide

/-! ## The tiles -/

/-- The group of the tile holding a row of device `c`'s result. -/
def grp (c : Dev nD) (row : ℕ) : ℕ :=
  if row / 1024 = c.val then 0
  else if row / 1024 = (prv c).val then (if row % 1024 < 512 then 1 else 3)
  else if row / 1024 = (nxt c).val then (if row % 1024 < 512 then 2 else 4)
  else if row % 1024 < 256 then 5
  else if row % 1024 < 448 then 7
  else if row % 1024 < 512 then 9
  else if row % 1024 < 768 then 6
  else if row % 1024 < 960 then 8
  else 10

/-- The first row, within its device's block of rows, of a group's tiles; -/
def gOff : ℕ → ℕ := fun | 0 => 0 | 1 => 0 | 2 => 0 | 3 => 512 | 4 => 512 | 5 => 0 | 6 => 512 | 7 => 256 | 8 => 768 | 9 => 448 | _ => 960
/-- how many rows; -/
def gLen : ℕ → ℕ := fun | 0 => 1024 | 1 => 512 | 2 => 512 | 3 => 512 | 4 => 512 | 5 => 256 | 6 => 256 | 7 => 192 | 8 => 192 | 9 => 64 | _ => 64
/-- and whose rows. -/
def gSrc (c : Dev nD) : ℕ → Dev nD := fun | 0 => c | 1 => prv c | 2 => nxt c | 3 => prv c | 4 => nxt c | _ => opp c

theorem grp_lt (c : Dev nD) (row : ℕ) : grp c row < 11 := by
  unfold grp; (repeat' split) <;> decide

theorem ring_vals (c : Dev nD) : c.val ≠ (prv c).val ∧ c.val ≠ (nxt c).val ∧ c.val ≠ (opp c).val ∧ (prv c).val ≠ (nxt c).val
    ∧ (prv c).val ≠ (opp c).val ∧ (nxt c).val ≠ (opp c).val
    ∧ ∀ q < 4, q = c.val ∨ q = (prv c).val ∨ q = (nxt c).val ∨ q = (opp c).val := by revert c; decide

set_option maxHeartbeats 2000000 in
theorem grp_eq_iff (c : Dev nD) (row g : ℕ) (hr : row < 4096) (hg : g < 11) :
    grp c row = g ↔ 1024 * (gSrc c g).val + gOff g ≤ row ∧ row < 1024 * (gSrc c g).val + gOff g + gLen g := by
  obtain ⟨h1, h2, h3, h4, h5, h6, h7⟩ := ring_vals c
  have hq := h7 (row / 1024) (by omega)
  clear h7
  have hrow : row = 1024 * (row / 1024) + row % 1024 := by omega
  have hm : row % 1024 < 1024 := Nat.mod_lt _ (by decide)
  have hg' : g = 0 ∨ g = 1 ∨ g = 2 ∨ g = 3 ∨ g = 4 ∨ g = 5 ∨ g = 6 ∨ g = 7 ∨ g = 8 ∨ g = 9 ∨ g = 10 := by omega
  have e0 : (gSrc c 0).val = c.val := rfl
  have e1 : (gSrc c 1).val = (prv c).val := rfl
  have e2 : (gSrc c 2).val = (nxt c).val := rfl
  have e3 : (gSrc c 3).val = (prv c).val := rfl
  have e4 : (gSrc c 4).val = (nxt c).val := rfl
  have e5 : ∀ g, 5 ≤ g → (gSrc c g).val = (opp c).val := fun g h => by
    obtain ⟨k, rfl⟩ := Nat.exists_eq_add_of_le' h; rfl
  unfold grp
  generalize row / 1024 = q at *
  generalize row % 1024 = r at *
  subst hrow
  rcases hq with rfl | rfl | rfl | rfl <;> simp only [↓reduceIte, h1, h1.symm, h2, h2.symm, h3, h3.symm, h4, h4.symm, h5, h5.symm, h6, h6.symm] <;>
    rcases hg' with rfl | rfl | rfl | rfl | rfl | rfl | rfl | rfl | rfl | rfl | rfl <;>
    first | rw [e0] | rw [e1] | rw [e2] | rw [e3] | rw [e4] | rw [e5 _ (by decide)]
  all_goals
    simp only [gOff, gLen]
    clear e0 e1 e2 e3 e4 e5 hg
    generalize c.val = k at *
    generalize (prv c).val = p at *
    generalize (nxt c).val = n at *
    generalize (opp c).val = o at *
    (try split_ifs) <;> constructor <;> intro hx <;> (try constructor) <;> first | omega | exact hx.elim

theorem tile_arith (g b n : ℕ) (hb : b < 2048) :
    4 * g + b / 512 = n ↔ g = n / 4 ∧ (512 * (n % 4) ≤ b ∧ b < 512 * (n % 4) + 512) := by
  constructor
  · intro h; exact ⟨by omega, by omega, by omega⟩
  · rintro ⟨h, h', h''⟩; omega

abbrev Oi : Type := S4096x2048.Idx

/-- The number of the tile holding an index of the result. -/
def tileNo (c : Dev nD) (i : Oi) : ℕ := 4 * grp c (i 0).val + (i 1).val / 512

theorem tileNo_lt (c : Dev nD) (i : Oi) : tileNo c i < 44 := by
  have h := grp_lt c (i 0).val
  have h1 : (i 1).val < 2048 := (i 1).isLt
  unfold tileNo; omega

/-- A tile's indices, -/
def tset (c : Dev nD) (n : ℕ) : Finset Oi := Finset.univ.filter fun i => tileNo c i = n
/-- those of the tiles before it, -/
def dset (c : Dev nD) (n : ℕ) : Finset Oi := Finset.univ.filter fun i => tileNo c i < n
/-- those of it and the tiles after it. -/
def fset (c : Dev nD) (n : ℕ) : Finset Oi := Finset.univ.filter fun i => n ≤ tileNo c i

theorem dset_succ (c : Dev nD) (n : ℕ) : dset c (n + 1) = dset c n ∪ tset c n := by
  ext i; simp only [dset, tset, Finset.mem_union, Finset.mem_filter, Finset.mem_univ, true_and]; omega
theorem dset_disj (c : Dev nD) (n : ℕ) : Disjoint (dset c n) (tset c n) := by
  rw [Finset.disjoint_left]; intro i; simp only [dset, tset, Finset.mem_filter, Finset.mem_univ, true_and]; omega
theorem fset_succ (c : Dev nD) (n : ℕ) : fset c n = tset c n ∪ fset c (n + 1) := by
  ext i; simp only [fset, tset, Finset.mem_union, Finset.mem_filter, Finset.mem_univ, true_and]; omega
theorem fset_disj (c : Dev nD) (n : ℕ) : Disjoint (tset c n) (fset c (n + 1)) := by
  rw [Finset.disjoint_left]; intro i; simp only [fset, tset, Finset.mem_filter, Finset.mem_univ, true_and]; omega
theorem dset_zero (c : Dev nD) : dset c 0 = ∅ := by
  ext i; simp [dset]
theorem fset_zero (c : Dev nD) : fset c 0 = Finset.univ := by
  ext i; simp [fset]
theorem fset_last (c : Dev nD) : fset c 44 = ∅ := by
  ext i; have := tileNo_lt c i; simp only [fset, Finset.mem_filter, Finset.mem_univ, true_and, Finset.notMem_empty, iff_false]; omega
theorem dset_last (c : Dev nD) : dset c 44 = Finset.univ := by
  ext i; simpa [dset] using tileNo_lt c i

/-- A rectangle at a tile's offsets and sizes is the tile's indices. -/
theorem tset_rect (c : Dev nD) (n : ℕ) (hn : n < 44) {off size : Fin 2 → ℕ} (inb : ∀ a, off a + size a ≤ S4096x2048.size a)
    (ho : off = ![1024 * (gSrc c (n / 4)).val + gOff (n / 4), 512 * (n % 4)]) (hs : size = ![gLen (n / 4), 512]) :
    tset c n = (Rect.unit (s := S4096x2048) off size inb).set := by
  subst ho hs
  ext i
  have h0 : (i 0).val < 4096 := (i 0).isLt
  have h1 : (i 1).val < 2048 := (i 1).isLt
  have hg := grp_eq_iff c (i 0).val (n / 4) h0 (by omega)
  rw [Rect.mem_set_unit]
  refine Iff.trans (Finset.mem_filter.trans (and_iff_right (Finset.mem_univ i))) ?_
  unfold tileNo
  have e : (∀ a : Fin 2, (![1024 * (gSrc c (n / 4)).val + gOff (n / 4), 512 * (n % 4)] : Fin 2 → ℕ) a ≤ (i a).val
        ∧ (i a).val < (![1024 * (gSrc c (n / 4)).val + gOff (n / 4), 512 * (n % 4)] : Fin 2 → ℕ) a + (![gLen (n / 4), 512] : Fin 2 → ℕ) a)
      ↔ (1024 * (gSrc c (n / 4)).val + gOff (n / 4) ≤ (i 0).val ∧ (i 0).val < 1024 * (gSrc c (n / 4)).val + gOff (n / 4) + gLen (n / 4))
        ∧ (512 * (n % 4) ≤ (i 1).val ∧ (i 1).val < 512 * (n % 4) + 512) := by
    rw [Fin.forall_fin_two]; rfl
  refine Iff.trans ?_ e.symm
  rw [← hg]
  exact tile_arith _ _ _ h1

/-! ## Rows of a block of `x`, columns of the weights, halves of the result's buffer -/

abbrev Xi : Type := S1024x4096.Idx
abbrev Wi : Type := S4096x2048.Idx
abbrev Yi : Type := S2x1024x512.Idx

/-- Rows `a` to `a + h`. -/
def rset (a h : ℕ) : Finset Xi := Finset.univ.filter fun p => a ≤ (p 0).val ∧ (p 0).val < a + h

theorem rset_rect (a h : ℕ) (inb : ∀ k, (![a, 0] : Fin 2 → ℕ) k + (![h, 4096] : Fin 2 → ℕ) k ≤ S1024x4096.size k) :
    rset a h = (Rect.unit (s := S1024x4096) ![a, 0] ![h, 4096] inb).set := by
  ext p
  have h1 : (p 1).val < 4096 := (p 1).isLt
  rw [Rect.mem_set_unit]
  simp only [rset, Finset.mem_filter, Finset.mem_univ, true_and]
  refine Iff.trans ?_ (Fin.forall_fin_two (p := fun k : Fin 2 => (![a, 0] : Fin 2 → ℕ) k ≤ (p k).val ∧ (p k).val < (![a, 0] : Fin 2 → ℕ) k + (![h, 4096] : Fin 2 → ℕ) k)).symm
  show _ ↔ (a ≤ (p 0).val ∧ (p 0).val < a + h) ∧ (0 ≤ (p 1).val ∧ (p 1).val < 0 + 4096)
  omega

theorem rset_split (a h h' : ℕ) : rset a (h + h') = rset a h ∪ rset (a + h) h' := by
  ext p; simp only [rset, Finset.mem_union, Finset.mem_filter, Finset.mem_univ, true_and]; omega
theorem rset_disj (a h h' : ℕ) : Disjoint (rset a h) (rset (a + h) h') := by
  rw [Finset.disjoint_left]; intro p; simp only [rset, Finset.mem_filter, Finset.mem_univ, true_and]; omega
theorem rset_univ : rset 0 1024 = Finset.univ := by
  ext p; have h : (p 0).val < 1024 := (p 0).isLt; simp only [rset, Finset.mem_filter, Finset.mem_univ, true_and, iff_true]; omega

/-- The indices of one of the two slots of the staging buffer of the result. -/
def yset (k : ℕ) : Finset Yi := Finset.univ.filter fun p => (p 0).val = k

theorem yset_univ : Finset.univ = yset 0 ∪ yset 1 := by
  ext p; have h : (p 0).val < 2 := (p 0).isLt
  simp only [yset, Finset.mem_union, Finset.mem_filter, Finset.mem_univ, true_and, true_iff]; omega
theorem yset_disj : Disjoint (yset 0) (yset 1) := by
  rw [Finset.disjoint_left]; intro p; simp only [yset, Finset.mem_filter, Finset.mem_univ, true_and]; omega

theorem yset_rect (k h : ℕ) (inb : ∀ a, (![k, 0, 0] : Fin 3 → ℕ) a + (![1, h, 512] : Fin 3 → ℕ) a ≤ S2x1024x512.size a) :
    (Rect.unit (s := S2x1024x512) ![k, 0, 0] ![1, h, 512] inb).set ⊆ yset k := by
  intro p hp
  rw [Rect.mem_set_unit] at hp
  have h0 : k ≤ (p 0).val ∧ (p 0).val < k + 1 := hp 0
  simp only [yset, Finset.mem_filter, Finset.mem_univ, true_and]; omega

end Cert.KProof
-- ==== Proof.Sems.lean ====
/-
# The buffers, the semaphores, and the ten transfers between devices

A device sends ten blocks of rows of `x`: five to its right neighbour and five to its left. The first four are the
halves of its own block, the next three a half its left neighbour sent it, sent on in three pieces, the last three a
half its right neighbour sent it. Each transfer has a send cell and a receive cell; one more cell is the barrier's.
What a device still owes is the receive credits of the transfers it has not yet started.
-/
module

public import proofs.«01_k».proof.Proof.Geom

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev M0 : Memref sig .tc .vmem S1024x4096 .bf16 := Memref.whole cc0_stg0_0
abbrev M1 : Memref sig .tc .hbm S4096x2048 .f32 := Memref.whole main_arg1
abbrev M2 : Memref sig .tc .hbm S4096x2048 .bf16 := Memref.whole main_v1
abbrev M3 : Memref sig .tc .vmem S1024x4096 .bf16 := Memref.whole cc0_scratch0
abbrev M4 : Memref sig .tc .vmem S1024x4096 .bf16 := Memref.whole cc0_scratch1
abbrev M5 : Memref sig .tc .vmem S1024x4096 .bf16 := Memref.whole cc0_scratch2
abbrev M6 : Memref sig .tc .vmem S4096x2048 .bf16 := Memref.whole cc0_scratch3
abbrev M7 : Memref sig .tc .vmem S4096x512 .f32 := Memref.whole cc0_scratch4
abbrev M8 : Memref sig .tc .vmem S2x1024x512 .bf16 := Memref.whole cc0_scratch5

/-! ## The semaphores -/

/-- The barrier's. -/
abbrev barS : Sem sig := (SemArray.scalar (sig.barrier 0 rfl) : Sems sig S_).sem
/-- The semaphore of a slot's store. -/
def stS : ℕ → DmaSem sig := fun | 0 => ⟨21, by decide⟩ | _ => ⟨22, by decide⟩
/-- The semaphore of the weights' staging. -/
def wS : DmaSem sig := ⟨23, by decide⟩
/-- A transfer's send semaphore, -/
def sndS (j : Fin 10) : DmaSem sig := ⟨1 + j.val, by have := j.isLt; show 1 + j.val < 24; omega⟩
/-- and its receive semaphore. -/
def rcvS (j : Fin 10) : DmaSem sig := ⟨11 + j.val, by have := j.isLt; show 11 + j.val < 24; omega⟩

theorem stS_zero : ((cc0_scratch8.slice (Rect.unit (s := S2) ![0] S1.size inb_S2_S1_0)).squeeze S_ squeezes_S1_S_).sem = stS 0 := rfl
theorem stS_one : ((cc0_scratch8.slice (Rect.unit (s := S2) ![1] S1.size inb_S2_S1_1)).squeeze S_ squeezes_S1_S_).sem = stS 1 := rfl
theorem wS_eq : cc0_scratch9.sem = wS := rfl
theorem snd_0 : ((cc0_scratch6.slice (Rect.unit (s := S10) ![0] S1.size inb_S10_S1_0)).squeeze S_ squeezes_S1_S_).sem = sndS 0 := rfl
theorem snd_1 : ((cc0_scratch6.slice (Rect.unit (s := S10) ![1] S1.size inb_S10_S1_1)).squeeze S_ squeezes_S1_S_).sem = sndS 1 := rfl
theorem snd_2 : ((cc0_scratch6.slice (Rect.unit (s := S10) ![2] S1.size inb_S10_S1_2)).squeeze S_ squeezes_S1_S_).sem = sndS 2 := rfl
theorem snd_3 : ((cc0_scratch6.slice (Rect.unit (s := S10) ![3] S1.size inb_S10_S1_3)).squeeze S_ squeezes_S1_S_).sem = sndS 3 := rfl
theorem snd_4 : ((cc0_scratch6.slice (Rect.unit (s := S10) ![4] S1.size inb_S10_S1_4)).squeeze S_ squeezes_S1_S_).sem = sndS 4 := rfl
theorem snd_5 : ((cc0_scratch6.slice (Rect.unit (s := S10) ![5] S1.size inb_S10_S1_5)).squeeze S_ squeezes_S1_S_).sem = sndS 5 := rfl
theorem snd_6 : ((cc0_scratch6.slice (Rect.unit (s := S10) ![6] S1.size inb_S10_S1_6)).squeeze S_ squeezes_S1_S_).sem = sndS 6 := rfl
theorem snd_7 : ((cc0_scratch6.slice (Rect.unit (s := S10) ![7] S1.size inb_S10_S1_7)).squeeze S_ squeezes_S1_S_).sem = sndS 7 := rfl
theorem snd_8 : ((cc0_scratch6.slice (Rect.unit (s := S10) ![8] S1.size inb_S10_S1_8)).squeeze S_ squeezes_S1_S_).sem = sndS 8 := rfl
theorem snd_9 : ((cc0_scratch6.slice (Rect.unit (s := S10) ![9] S1.size inb_S10_S1_9)).squeeze S_ squeezes_S1_S_).sem = sndS 9 := rfl
theorem rcv_0 : ((cc0_scratch7.slice (Rect.unit (s := S10) ![0] S1.size inb_S10_S1_0)).squeeze S_ squeezes_S1_S_).sem = rcvS 0 := rfl
theorem rcv_1 : ((cc0_scratch7.slice (Rect.unit (s := S10) ![1] S1.size inb_S10_S1_1)).squeeze S_ squeezes_S1_S_).sem = rcvS 1 := rfl
theorem rcv_2 : ((cc0_scratch7.slice (Rect.unit (s := S10) ![2] S1.size inb_S10_S1_2)).squeeze S_ squeezes_S1_S_).sem = rcvS 2 := rfl
theorem rcv_3 : ((cc0_scratch7.slice (Rect.unit (s := S10) ![3] S1.size inb_S10_S1_3)).squeeze S_ squeezes_S1_S_).sem = rcvS 3 := rfl
theorem rcv_4 : ((cc0_scratch7.slice (Rect.unit (s := S10) ![4] S1.size inb_S10_S1_4)).squeeze S_ squeezes_S1_S_).sem = rcvS 4 := rfl
theorem rcv_5 : ((cc0_scratch7.slice (Rect.unit (s := S10) ![5] S1.size inb_S10_S1_5)).squeeze S_ squeezes_S1_S_).sem = rcvS 5 := rfl
theorem rcv_6 : ((cc0_scratch7.slice (Rect.unit (s := S10) ![6] S1.size inb_S10_S1_6)).squeeze S_ squeezes_S1_S_).sem = rcvS 6 := rfl
theorem rcv_7 : ((cc0_scratch7.slice (Rect.unit (s := S10) ![7] S1.size inb_S10_S1_7)).squeeze S_ squeezes_S1_S_).sem = rcvS 7 := rfl
theorem rcv_8 : ((cc0_scratch7.slice (Rect.unit (s := S10) ![8] S1.size inb_S10_S1_8)).squeeze S_ squeezes_S1_S_).sem = rcvS 8 := rfl
theorem rcv_9 : ((cc0_scratch7.slice (Rect.unit (s := S10) ![9] S1.size inb_S10_S1_9)).squeeze S_ squeezes_S1_S_).sem = rcvS 9 := rfl

/-! ## The transfers -/

/-- Does the transfer go to the right neighbour? -/
def legR : Fin 10 → Bool := ![true, false, true, false, true, true, true, false, false, false]
def legDst (c : Dev nD) (j : Fin 10) : Dev nD := bif legR j then nxt c else prv c
/-- The sender of what `c` receives. -/
def legFrom (c : Dev nD) (j : Fin 10) : Dev nD := bif legR j then prv c else nxt c
/-- The first row and the number of rows. -/
def legA : Fin 10 → ℕ := ![0, 0, 512, 512, 0, 256, 448, 512, 768, 960]
def legH : Fin 10 → ℕ := ![512, 512, 512, 512, 256, 192, 64, 256, 192, 64]
/-- The buffer sent from, and the one received in. -/
def srcM : Fin 10 → Memref sig .tc .vmem S1024x4096 .bf16 := ![M0, M0, M0, M0, M3, M3, M3, M4, M4, M4]
def dstM : Fin 10 → Memref sig .tc .vmem S1024x4096 .bf16 := ![M3, M4, M3, M4, M5, M5, M5, M5, M5, M5]
/-- Whose block of `x` device `c` sends rows of. -/
def legData (c : Dev nD) (j : Fin 10) : Dev nD := (![c, c, c, c, prv c, prv c, prv c, nxt c, nxt c, nxt c] : Fin 10 → Dev nD) j
/-- The share of its source a transfer borrows. -/
def legQ : Fin 10 → PosShare TreeShare :=
  ![fullShare.right.left, fullShare.right.right, fullShare.right.left, fullShare.right.right, fullShare.right, fullShare.right, fullShare.right,
    fullShare.right, fullShare.right, fullShare.right]
/-- What a transfer credits. -/
def legN (j : Fin 10) : ℕ := (dstM j).view.ref.dmaCredit ⟨2, ![legH j, 4096]⟩ .bf16

theorem legN_pos (j : Fin 10) : 0 < legN j := sig.dmaCredit_pos _ _ _ _ _ (by
  fin_cases j <;> decide)
theorem legFrom_dst (c : Dev nD) (j : Fin 10) : legFrom (legDst c j) j = c := by revert c j; decide
theorem legDst_from (c : Dev nD) (j : Fin 10) : legDst (legFrom c j) j = c := by revert c j; decide
theorem legDst_inj {c d : Dev nD} {j : Fin 10} (h : legDst c j = legDst d j) : c = d := by
  rw [← legFrom_dst c j, h, legFrom_dst]

abbrev barCell (c : Dev nD) : GSem nD τ sig := ((c : Thread nD τ), .reg barS)
abbrev sndCell (c : Dev nD) (j : Fin 10) : GSem nD τ sig := ((c : Thread nD τ), .dma (sndS j))
abbrev rcvCell (c : Dev nD) (j : Fin 10) : GSem nD τ sig := ((c : Thread nD τ), .dma (rcvS j))

theorem sndS_inj : Function.Injective sndS := by intro a b; revert a b; decide
theorem rcvS_inj : Function.Injective rcvS := by intro a b; revert a b; decide
theorem snd_ne_rcv (i j : Fin 10) : sndS i ≠ rcvS j := by revert i j; decide

/-! ## What is owed, and the levels -/

/-- The receive credits of the last `k` transfers. -/
def owe (c : Dev nD) : ℕ → CellTallies nD τ sig Unit
  | 0 => 0
  | k + 1 => owe c k + tallyAt (rcvCell (legDst c (Fin.ofNat 10 (9 - k))) (Fin.ofNat 10 (9 - k))) () (legN (Fin.ofNat 10 (9 - k)))
/-- At launch: also a unit to each neighbour's barrier. -/
def O₁ (c : Dev nD) : CellTallies nD τ sig Unit := owe c 10 + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a semaphore: the barrier's below the receive cells of the first four transfers, those below the rest's. -/
def slv : SemLoc sig → ℕ := fun
  | .reg _ => 1
  | .dma q => if 15 ≤ q.val ∧ q.val ≤ 20 then 3 else if 11 ≤ q.val ∧ q.val ≤ 14 then 2 else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} : ∀ {k : ℕ}, k ≤ 10 → 0 < owe c k g u → ∃ j : Fin 10, 10 - k ≤ j.val ∧ g = rcvCell (legDst c j) j
  | 0, _, h => absurd h (Nat.lt_irrefl 0)
  | k + 1, hk, h => by
    unfold owe at h
    rw [Pi.add_apply, Finsupp.add_apply, tallyAt_apply] at h
    by_cases hg : g = rcvCell (legDst c (Fin.ofNat 10 (9 - k))) (Fin.ofNat 10 (9 - k))
    · refine ⟨Fin.ofNat 10 (9 - k), ?_, hg⟩
      show 10 - (k + 1) ≤ (9 - k) % 10
      omega
    · rw [if_neg (fun h' => hg h'.1)] at h
      obtain ⟨j, hj, e⟩ := owe_pos (k := k) (by omega) h
      exact ⟨j, by omega, e⟩

theorem O₀_pos {c : Dev nD} {g : GSem nD τ sig} {u : Unit} (h : 0 < O₀ c g u) :
    (∃ j : Fin 10, g = rcvCell (legDst c j) j) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  obtain ⟨j, -, e⟩ := owe_pos (le_refl 10) (by simpa using h)
  exact h1 ⟨j, e⟩

theorem slv_rcv (j : Fin 10) : slv (.dma (rcvS j)) = if j.val < 4 then 2 else 3 := by revert j; decide

omit [FloatOps F] in
/-- A wait on a semaphore of level `l` is allowed while the transfers still owed have higher receive cells. -/
theorem mayWait_owe (c : Dev nD) (sm : SemLoc sig) (k : ℕ) (hk : k ≤ 10) (h : ∀ j : Fin 10, 10 - k ≤ j.val → slv sm < slv (.dma (rcvS j))) :
    (levAts L lv : sProp 𝕄) ⊢ MayWait (c : Thread nD τ) sm () (owe c k) :=
  MayOwe.of_cut (L := L) (lev := lv) (slv sm) (fun p hp => by rw [Finset.mem_singleton.mp hp, L_tc]; exact Finset.mem_singleton_self _)
    (fun g u hg => by obtain ⟨j, hj, rfl⟩ := owe_pos hk hg; exact Finset.mem_singleton_self _)
    (fun p hp => by rw [Finset.mem_singleton.mp hp]; exact le_refl _)
    (fun g u hg => by obtain ⟨j, hj, rfl⟩ := owe_pos hk hg; exact h j hj)

omit [FloatOps F] in
theorem mayWait_low (c : Dev nD) (sm : SemLoc sig) (hs : slv sm = 0) (k : ℕ) (hk : k ≤ 10) :
    (levAts L lv : sProp 𝕄) ⊢ MayWait (c : Thread nD τ) sm () (owe c k) :=
  mayWait_owe c sm k hk fun j _ => by rw [hs, slv_rcv]; split <;> decide

omit [FloatOps F] in
theorem mayWait_bar (c : Dev nD) : (levAts L lv : sProp 𝕄) ⊢ MayWait (c : Thread nD τ) (.reg barS) () (owe c 10) :=
  mayWait_owe c _ 10 (le_refl _) fun j _ => by rw [slv_rcv]; show 1 < _; split <;> decide

omit [FloatOps F] in
theorem mayWait_rcv (c : Dev nD) (i : Fin 10) (k : ℕ) (hk : k ≤ 6) (h : k = 0 ∨ i.val < 4) :
    (levAts L lv : sProp 𝕄) ⊢ MayWait (c : Thread nD τ) (.dma (rcvS i)) () (owe c k) :=
  mayWait_owe c _ k (by omega) fun j hj => by
    have := j.isLt
    rcases h with rfl | h
    · omega
    · rw [slv_rcv, slv_rcv, if_pos h, if_neg (by omega)]; decide

omit [FloatOps F] in
theorem mayWait_stage (c : Dev nD) (sm : SemLoc sig) (hs : slv sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact le_of_eq hs)
      (fun g u hg => by
        rcases O₀_pos hg with ⟨j, rfl⟩ | rfl | rfl
        · show 0 < slv _; rw [slv_rcv]; split <;> decide
        · show 0 < 1; decide
        · show 0 < 1; decide)
  · rw [MayWait_zero]; iintro -; iempintro

end Cert.KProof
-- ==== Proof.Tile.lean ====
/-
# One tile of the result

A tile is computed from rows of some device's block of `x` and four hundred and more columns of this device's weights,
stored into one of the two slots of the staging buffer, and sent from there to its rectangle of the result. What the
result's elements satisfy is a parameter, `Spec.RO`: the tiles' products only have to satisfy it (`FitsAt`). Between
two tiles the state is `St2`, and `St1` once the slot of the tile before last is free again.
-/
module

public import proofs.«01_k».proof.Proof.Sems

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is computed -/

/-- The tiles' products at height `H` satisfy what the result's elements are to satisfy. -/
def FitsAt (xb : Dev nD → Vec F S1024x4096 .bf16) (wf : Dev nD → Vec F S4096x2048 .f32) (RO : Dev nD → S4096x2048.Idx → Elt F .bf16 → Prop)
    (H : ℕ) (hsq : (⟨2, ![H, 512]⟩ : Shape).numel = (⟨3, ![1, H, 512]⟩ : Shape).numel)
    (pay : Vec F ⟨2, ![H, 4096]⟩ .bf16 → Vec F S4096x512 .bf16 → Vec F ⟨3, ![1, H, 512]⟩ .bf16) : Prop :=
  ∀ (c d : Dev nD) (a b : ℕ) (ha : ∀ k, (![a, 0] : Fin 2 → ℕ) k + (![H, 4096] : Fin 2 → ℕ) k ≤ S1024x4096.size k)
    (hb : ∀ k, (![0, b] : Fin 2 → ℕ) k + S4096x512.size k ≤ S4096x2048.size k)
    (ho : ∀ k, (![1024 * d.val + a, b] : Fin 2 → ℕ) k + (![H, 512] : Fin 2 → ℕ) k ≤ S4096x2048.size k)
    (v : Vec F ⟨2, ![H, 4096]⟩ .bf16) (u : Vec F S4096x512 .bf16),
    (∀ y, v y = xb d ((Rect.unit (s := S1024x4096) ![a, 0] ![H, 4096] ha).emb y)) →
    (∀ y, u y = truncf .bf16 (wf c) bitsLt_bf16_f32 ((Rect.unit (s := S4096x2048) ![0, b] S4096x512.size hb).emb y)) →
    ∀ x : (⟨2, ![H, 512]⟩ : Shape).Idx, RO c ((Rect.unit (s := S4096x2048) ![1024 * d.val + a, b] ![H, 512] ho).emb x) (pay v u (Shape.reshapeEquiv hsq x))

/-- The devices' blocks of `x`, their columns of the weights, and what the result's elements satisfy. -/
structure Spec (F : FTy → Type) [FloatOps F] where
  xb : Dev nD → Vec F S1024x4096 .bf16
  wf : Dev nD → Vec F S4096x2048 .f32
  RO : Dev nD → S4096x2048.Idx → Elt F .bf16 → Prop
  f1024 : FitsAt xb wf RO 1024 squeezes_S1x1024x512_S1024x512.numel_eq k0_pay2
  f512 : FitsAt xb wf RO 512 squeezes_S1x512x512_S512x512.numel_eq k0_pay11
  f256 : FitsAt xb wf RO 256 squeezes_S1x256x512_S256x512.numel_eq k0_pay29
  f192 : FitsAt xb wf RO 192 squeezes_S1x192x512_S192x512.numel_eq k0_pay37
  f64 : FitsAt xb wf RO 64 squeezes_S1x64x512_S64x512.numel_eq k0_pay46

section
variable (Z : Spec F) (c : Dev nD)

/-- Nothing is said of an element. -/
abbrev Any {s : Shape} {e : EltTy} : s.Idx → Elt F e → Prop := fun _ _ => True
/-- An element of device `d`'s block of `x`. -/
abbrev RX (d : Dev nD) : S1024x4096.Idx → Elt F .bf16 → Prop := fun p y => y = Z.xb d p
/-- An element of this device's weights, in their first `512 J` columns. -/
abbrev RW (J : ℕ) : S4096x2048.Idx → Elt F .bf16 → Prop := fun p y => (p 1).val < 512 * J → y = truncf .bf16 (Z.wf c) bitsLt_bf16_f32 p

/-- What a tile's store credits its semaphore. -/
def cr (n : ℕ) : ℕ := (main_v1 : Ref sig .tc).dmaCredit ⟨2, ![gLen (n / 4), 512]⟩ .bf16

theorem cr_pos (n : ℕ) : 0 < cr n := by
  unfold cr
  generalize n / 4 = g
  refine sig.dmaCredit_pos _ _ _ _ _ ?_
  unfold gLen
  split <;> decide

/-- A slot and its semaphore, free. -/
def Slot (s : ℕ) : sProp 𝕄 := iprop(own c M8.view (yset s) fullShare Any ∗ semVal ((c : Thread nD τ), .dma (stS s)) 0)
/-- Tile `n`'s store under way. -/
def Pend (n : ℕ) : sProp 𝕄 :=
  iprop(∃ B : Finset Yi, ⌜B ⊆ yset (n % 2)⌝ ∗ Transfers.Flight EC (c : Thread nD τ) (.dma (stS (n % 2))) () (cr n)
      iprop(own c M2.view (tset c n) fullShare (Z.RO c) ∗ own c M8.view B fullShare Any) ∗ own c M8.view (yset (n % 2) \ B) fullShare Any)
/-- The slot of tile `n`, two tiles later: free before the first two. -/
def Pd : ℕ → sProp 𝕄 := fun | 0 => Slot c 0 | 1 => Slot c 1 | n + 2 => Pend Z c n
def Done (n : ℕ) : sProp 𝕄 := own c M2.view (dset c n) fullShare (Z.RO c)
def Todo (n : ℕ) : sProp 𝕄 := own c M2.view (fset c n) fullShare (Any (F := F))

/-- Before tile `n`, its slot free. -/
def St1 (n : ℕ) : sProp 𝕄 := iprop(Done Z c (n - 1) ∗ Slot c (n % 2) ∗ Pd Z c (n + 1) ∗ Todo c n)
/-- Before tile `n`, its slot still being stored. -/
def St2 (n : ℕ) : sProp 𝕄 := iprop(Done Z c (n - 2) ∗ Pd Z c n ∗ Pd Z c (n + 1) ∗ Todo c n)

theorem St2_zero : St2 Z c 0 = St1 Z c 0 := rfl
theorem St2_one : St2 Z c 1 = St1 Z c 1 := rfl

/-- What is owed, whatever has been waited for. -/
def Ow (O : CellTallies nD τ sig Unit) : sProp 𝕄 := iprop(∃ W, owes (c : Thread nD τ) O W)

variable (defs : Defs nD τ sig (Elt F) Λ₀)
variable {α : Type}

/-- The wait for the store of tile `n`. -/
theorem pend_wait (n : ℕ) {st : DmaSem sig} (hst : st = stS (n % 2)) (i : ℕ) (hi : i ≤ 10) {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = cr n) {k : PUnit → Prog (TpuEff nD τ sig (Elt F) Λ₀ .tc) α} {Q : α → sProp 𝕄} :
    iprop(levAts L lv ∗ Done Z c n ∗ Pend Z c n ∗ Ow c (owe c i))
      ⊢ iprop((iprop(Done Z c (n + 1) ∗ Slot (F := F) c (n % 2) ∗ Ow c (owe c i)) -∗ wp frame (wpE defs 𝒱₀ (c : Thread nD τ) none) Set.univ (k ⟨⟩) Q)
        -∗ wp frame (wpE defs 𝒱₀ (c : Thread nD τ) none) Set.univ (.op (.waitDma2 st srcw dstw hsrc hdst) k) Q) := by
  subst hst
  unfold Pend Ow
  iintro ⟨Hlev, HD, ⟨%B, %hB, HF, Hrest⟩, ⟨%W, HO⟩⟩ HK
  ihave Hmw := (mayWait_low c (.dma (stS (n % 2))) (by rcases Nat.mod_two_eq_zero_or_one n with h | h <;> rw [h] <;> decide) i hi) $$ Hlev
  iapply (Transfers.wp_waitLocalO EC 𝒱₀ (c : Thread nD τ) none () hN) $$ [HF HO Hmw]
  · isplitl [HF]; · iexact HF
    isplitl [HO]; · iexact HO
    iexact Hmw
  iintro ⟨⟨H2, H8⟩, Hv, HO⟩
  iapply HK
  isplitl [HD H2]
  · unfold Done
    iapply (own_join c M2.view (dset_succ c n) (dset_disj c n)) $$ [HD H2]
    isplitl [HD]; · iexact HD
    iexact H2
  isplitl [H8 Hrest Hv]
  · unfold Slot
    isplitr [Hv]
    · iapply (own_join c M8.view (A := yset (n % 2)) (B := B) (C := yset (n % 2) \ B) (Finset.union_sdiff_of_subset hB).symm Finset.disjoint_sdiff) $$ [H8 Hrest]
      isplitl [H8]; · iexact H8
      iexact Hrest
    iexact Hv
  iexists _; iexact HO

/-- The wait that frees the slot of tile `n + 2`. -/
theorem wait_store (n : ℕ) {st : DmaSem sig} (hst : st = stS (n % 2)) (i : ℕ) (hi : i ≤ 10) {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = cr n) {k : PUnit → Prog (TpuEff nD τ sig (Elt F) Λ₀ .tc) α} {Q : α → sProp 𝕄} :
    iprop(levAts L lv ∗ St2 Z c (n + 2) ∗ Ow c (owe c i))
      ⊢ iprop((iprop(St1 Z c (n + 2) ∗ Ow c (owe c i)) -∗ wp frame (wpE defs 𝒱₀ (c : Thread nD τ) none) Set.univ (k ⟨⟩) Q)
        -∗ wp frame (wpE defs 𝒱₀ (c : Thread nD τ) none) Set.univ (.op (.waitDma2 st srcw dstw hsrc hdst) k) Q) := by
  unfold St2 St1
  have e2 : (n + 2) % 2 = n % 2 := by omega
  rw [e2]
  show iprop(levAts L lv ∗ iprop(Done Z c n ∗ Pend Z c n ∗ Pd Z c (n + 3) ∗ Todo c (n + 2)) ∗ _) ⊢ iprop((iprop(iprop(Done Z c (n + 1) ∗ _) ∗ _) -∗ _) -∗ _)
  iintro ⟨Hlev, ⟨HD, HF, HP, HT⟩, HO⟩ HK
  iapply (pend_wait Z c defs n hst i hi hN) $$ [Hlev HD HF HO]
  · isplitl [Hlev]; · iexact Hlev
    isplitl [HD]; · iexact HD
    isplitl [HF]; · iexact HF
    iexact HO
  iintro ⟨HD, Hs, HO⟩
  iapply HK
  isplitr [HO]
  · isplitl [HD]; · iexact HD
    isplitl [Hs]; · iexact Hs
    isplitl [HP]; · iexact HP
    iexact HT
  iexact HO

/-- A tile: its rows of `x` and its columns of the weights are read, their product stored in the slot, and the slot's
    transfer to the result started. -/
theorem tile_core (H n s a j J : ℕ) (d : Dev nD) (hn : n < 44) (hs : n % 2 = s) (ha : gOff (n / 4) = a) (hH : gLen (n / 4) = H) (hd : gSrc c (n / 4) = d)
    (hj : n % 4 = j) (hJ : j < J) (hpos : 0 < H) {b : ℕ} (hb : 512 * j = b) {st : DmaSem sig} (hst : st = stS s)
    {pay₀ : Vec F ⟨2, ![H, 4096]⟩ .bf16 → Vec F S4096x512 .bf16 → Vec F ⟨3, ![1, H, 512]⟩ .bf16}
    (hsq : (⟨3, ![1, H, 512]⟩ : Shape).Squeezes ⟨2, ![H, 512]⟩)
    (hfit : FitsAt Z.xb Z.wf Z.RO H hsq.numel_eq pay₀)
    {M : Memref sig .tc .vmem S1024x4096 .bf16} {A : Finset Xi} {q : PosShare TreeShare}
    {ia : ∀ k, (![a, 0] : Fin 2 → ℕ) k + (![H, 4096] : Fin 2 → ℕ) k ≤ S1024x4096.size k}
    (hA : (Rect.unit (s := S1024x4096) ![a, 0] ![H, 4096] ia).set ⊆ A)
    {ib : ∀ k, (![0, b] : Fin 2 → ℕ) k + S4096x512.size k ≤ S4096x2048.size k}
    {iy : ∀ k, (![s, 0, 0] : Fin 3 → ℕ) k + (![1, H, 512] : Fin 3 → ℕ) k ≤ S2x1024x512.size k}
    {off : Fin 2 → ℕ} (hoff : off = ![1024 * d.val + a, b])
    {io : ∀ k, off k + (![H, 512] : Fin 2 → ℕ) k ≤ S4096x2048.size k}
    {hl₁ : M.view.LoadsAt (Rect.unit (s := S1024x4096) ![a, 0] ![H, 4096] ia).toLoadRect}
    {hl₂ : (M6 : Memref sig .tc .vmem S4096x2048 .bf16).view.LoadsAt (Rect.unit (s := S4096x2048) ![0, b] S4096x512.size ib).toLoadRect}
    {hl₃ : (M8 : Memref sig .tc .vmem S2x1024x512 .bf16).view.LoadsAt (Rect.unit (s := S2x1024x512) ![s, 0, 0] ![1, H, 512] iy).toLoadRect}
    {hx : ((M8 : Memref sig .tc .vmem S2x1024x512 .bf16).access (Rect.unit (s := S2x1024x512) ![s, 0, 0] ![1, H, 512] iy)).Stores Finset.univ}
    {hm : (Finset.univ : Finset (Rect.unit (s := S2x1024x512) ![s, 0, 0] ![1, H, 512] iy).shape.Idx) = Finset.univ ∨ ∀ a, (Rect.unit (s := S2x1024x512) ![s, 0, 0] ![1, H, 512] iy).stride a = 1}
    {pay : Vec F ⟨2, ![H, 4096]⟩ .bf16 → Vec F S4096x512 .bf16 → Vec F ⟨3, ![1, H, 512]⟩ .bf16} (hpay : pay = pay₀)
    {h8 : ∀ a, (Rect.unit (s := S2x1024x512) ![s, 0, 0] ![1, H, 512] iy).stride a = 1} {h2 : ∀ a, (Rect.unit (s := S4096x2048) off ![H, 512] io).stride a = 1}
    {hsrc : ((M8.slice (Rect.unit (s := S2x1024x512) ![s, 0, 0] ![1, H, 512] iy) h8).squeeze ⟨2, ![H, 512]⟩ hsq).view.WordExact}
    {hdst : (M2.slice (Rect.unit (s := S4096x2048) off ![H, 512] io) h2).view.WordExact}
    {hsem : DmaTarget.Typed (nD := nD) (p := (c : Thread nD τ).2) .vmem (.dma st) (.here (M2.slice (Rect.unit (s := S4096x2048) off ![H, 512] io) h2))}
    {k : PUnit → Prog (TpuEff nD τ sig (Elt F) Λ₀ .tc) α} {Q : α → sProp 𝕄} :
    iprop(St1 Z c n ∗ own c M.view A q (RX Z d) ∗ own c M6.view Finset.univ fullShare (RW Z c J))
      ⊢ iprop((iprop(St2 Z c (n + 1) ∗ own c M.view A q (RX Z d) ∗ own c M6.view Finset.univ fullShare (RW Z c J))
          -∗ wp frame (wpE defs 𝒱₀ (c : Thread nD τ) none) Set.univ (k ⟨⟩) Q)
        -∗ wp frame (wpE defs 𝒱₀ (c : Thread nD τ) none) Set.univ
          (.op (.load M (Rect.unit (s := S1024x4096) ![a, 0] ![H, 4096] ia).toLoadRect hl₁) fun v =>
            .op (.load M6 (Rect.unit (s := S4096x2048) ![0, b] S4096x512.size ib).toLoadRect hl₂) fun u =>
            .op (.load M8 (Rect.unit (s := S2x1024x512) ![s, 0, 0] ![1, H, 512] iy).toLoadRect hl₃) fun _ =>
            .op (.store M8 (Rect.unit (s := S2x1024x512) ![s, 0, 0] ![1, H, 512] iy) (pay v u) Finset.univ hx hm) fun _ =>
            .op (.enqueueDma ((M8.slice (Rect.unit (s := S2x1024x512) ![s, 0, 0] ![1, H, 512] iy) h8).squeeze ⟨2, ![H, 512]⟩ hsq)
              (.here (M2.slice (Rect.unit (s := S4096x2048) off ![H, 512] io) h2)) (.dma st) hsrc hdst hsem) k) Q) := by
  subst hb hst
  subst hs hpay hoff
  have hset : tset c n = (Rect.unit (s := S4096x2048) ![1024 * d.val + a, 512 * j] ![H, 512] io).set :=
    tset_rect c n hn io (by rw [hd, ha, hj]) (by rw [hH])
  have hy : (Rect.unit (s := S2x1024x512) ![n % 2, 0, 0] ![1, H, 512] iy).set ⊆ yset (n % 2) := yset_rect _ _ iy
  have back2 : own c (M2.slice (Rect.unit (s := S4096x2048) ![1024 * d.val + a, 512 * j] ![H, 512] io) h2).view Finset.univ fullShare
      (fun x y => Z.RO c ((Rect.unit (s := S4096x2048) ![1024 * d.val + a, 512 * j] ![H, 512] io).emb x) y) ⊢ own c M2.view (tset c n) fullShare (Z.RO c) :=
    Entails.of_eq (own_slice c M2.view (R := Z.RO c) (Rect.unit (s := S4096x2048) ![1024 * d.val + a, 512 * j] ![H, 512] io) hset)
  have back8 : own c ((M8.slice (Rect.unit (s := S2x1024x512) ![n % 2, 0, 0] ![1, H, 512] iy) h8).squeeze ⟨2, ![H, 512]⟩ hsq).view Finset.univ fullShare
      (fun x y => Z.RO c ((Rect.unit (s := S4096x2048) ![1024 * d.val + a, 512 * j] ![H, 512] io).emb x) y)
        ⊢ own c M8.view (Rect.unit (s := S2x1024x512) ![n % 2, 0, 0] ![1, H, 512] iy).set fullShare (Any (F := F)) :=
    (own_mono c ((M8.view.slice (Rect.unit (s := S2x1024x512) ![n % 2, 0, 0] ![1, H, 512] iy)).reshape ⟨2, ![H, 512]⟩ hsq.numel_eq)
        (fun p _ x _ => trivial)).trans
      ((Entails.of_eq (own_reshape c (M8.view.slice (Rect.unit (s := S2x1024x512) ![n % 2, 0, 0] ![1, H, 512] iy)) (R := Any) (s' := ⟨2, ![H, 512]⟩) hsq.numel_eq)).trans
        (Entails.of_eq (own_slice c M8.view (R := Any) (Rect.unit (s := S2x1024x512) ![n % 2, 0, 0] ![1, H, 512] iy) rfl)))
  unfold St1 Slot Todo
  iintro ⟨⟨HD, ⟨H8, Hv⟩, HP, HT⟩, HX, HW⟩ HK
  ihave H8 := (own_split c M8.view (B := (Rect.unit (s := S2x1024x512) ![n % 2, 0, 0] ![1, H, 512] iy).set)
    (C := yset (n % 2) \ (Rect.unit (s := S2x1024x512) ![n % 2, 0, 0] ![1, H, 512] iy).set)
    (Finset.union_sdiff_of_subset hy).symm Finset.disjoint_sdiff) $$ H8
  icases H8 with ⟨H8, Hrest⟩
  iapply (wp_own_load defs c hA) $$ HX
  iintro %v %hv HX
  iapply (wp_own_load defs c (Finset.subset_univ _)) $$ HW
  iintro %u %hu HW
  iapply (wp_own_load defs c (Finset.Subset.refl _)) $$ H8
  iintro %y %hy' H8
  iapply (wp_own_store defs c (R' := fun p y => ∀ x, (Rect.unit (s := S2x1024x512) ![n % 2, 0, 0] ![1, H, 512] iy).emb x = p → y = pay v u x) (Finset.Subset.refl _)
    (fun x x' hx' => by rw [(Rect.unit (s := S2x1024x512) ![n % 2, 0, 0] ![1, H, 512] iy).emb.injective hx']) (fun p hp hp' => absurd hp hp')) $$ H8
  iintro H8
  ihave H8 := (Entails.of_eq (own_slice c M8.view (Rect.unit (s := S2x1024x512) ![n % 2, 0, 0] ![1, H, 512] iy) rfl).symm) $$ H8
  ihave H8 := (own_mono c (M8.view.slice (Rect.unit (s := S2x1024x512) ![n % 2, 0, 0] ![1, H, 512] iy)) (R' := fun x y => y = pay v u x)
    (fun p _ x hx => hx p rfl)) $$ H8
  ihave H8 := (Entails.of_eq (own_reshape c (M8.view.slice (Rect.unit (s := S2x1024x512) ![n % 2, 0, 0] ![1, H, 512] iy)) (s' := ⟨2, ![H, 512]⟩) hsq.numel_eq).symm) $$ H8
  ihave H8 := (own_mono c ((M8.view.slice (Rect.unit (s := S2x1024x512) ![n % 2, 0, 0] ![1, H, 512] iy)).reshape ⟨2, ![H, 512]⟩ hsq.numel_eq)
    (R' := fun x y => Z.RO c ((Rect.unit (s := S4096x2048) ![1024 * d.val + a, 512 * j] ![H, 512] io).emb x) y)
    (fun p _ x hx => by
      rw [hx]
      refine hfit c d a (512 * j) ia ib io v u hv (fun y => ?_) p
      refine hu y ?_
      rw [Rect.emb_apply]
      have : (y 1).val < 512 := (y 1).isLt
      show 512 * j + 1 * (y 1).val < 512 * J
      omega)) $$ H8
  ihave HT := (own_split c M2.view (fset_succ c n) (fset_disj c n)) $$ HT
  icases HT with ⟨HT, HT'⟩
  ihave HT := (Entails.of_eq (own_slice c M2.view (R := Any) (Rect.unit (s := S4096x2048) ![1024 * d.val + a, 512 * j] ![H, 512] io) hset).symm) $$ HT
  iapply (wp_own_dma defs c (src := (M8.slice (Rect.unit (s := S2x1024x512) ![n % 2, 0, 0] ![1, H, 512] iy) h8).squeeze ⟨2, ![H, 512]⟩ hsq)
    (dst := M2.slice (Rect.unit (s := S4096x2048) ![1024 * d.val + a, 512 * j] ![H, 512] io) h2)
    (cr n) (by subst hH; rfl) (cr_pos n)
    (D := iprop(own c M2.view (tset c n) fullShare (Z.RO c) ∗ own c M8.view (Rect.unit (s := S2x1024x512) ![n % 2, 0, 0] ![1, H, 512] iy).set fullShare Any))
    (BIClass.sep_mono back2 back8)) $$ [H8 HT Hv]
  · isplitl [H8]; · iexact H8
    isplitl [HT]; · iexact HT
    iexact Hv
  iintro HF
  iapply HK
  isplitr [HX HW]
  · unfold St2 Todo
    isplitl [HD]; · iexact HD
    isplitl [HP]; · iexact HP
    isplitl [HF Hrest]
    · rw [show Pd Z c (n + 1 + 1) = Pend Z c n from rfl]
      unfold Pend
      iexists (Rect.unit (s := S2x1024x512) ![n % 2, 0, 0] ![1, H, 512] iy).set
      isplitr [HF Hrest]; · ipureintro; exact hy
      isplitl [HF]
      · iexact HF
      iexact Hrest
    iexact HT'
  isplitl [HX]; · iexact HX
  iexact HW

/-! ## The weights' columns -/

theorem cast_same {s : Shape} {β : Type} (x : s.Idx → β) (h : s.ShapeCasts s) : shapeCast s x h = x :=
  funext fun j => congrArg x (Shape.reshapeEquiv_eq_of_rowMajor h rfl)

theorem emb_zero {s : Shape} {off : Fin s.rank → ℕ} (h0 : off = fun _ => 0) (inb : ∀ a, off a + s.size a ≤ s.size a) (y : s.Idx) :
    (Rect.unit (s := s) off s.size inb).emb y = y := by
  subst h0
  refine funext fun a => Fin.ext ?_
  rw [Rect.emb_apply]
  show 0 + 1 * (y a).val = (y a).val
  omega

theorem two_zero : (![0, 0] : Fin 2 → ℕ) = fun _ => 0 := funext fun a => by fin_cases a <;> rfl

/-- Five hundred and twelve columns of the weights are fetched, rounded, and kept. -/
theorem w_step (j i : ℕ) (hi : i ≤ 10) {b : ℕ} (hb : 512 * j = b)
    {ib : ∀ k, (![0, b] : Fin 2 → ℕ) k + S4096x512.size k ≤ S4096x2048.size k}
    {i7 : ∀ k, (![0, 0] : Fin 2 → ℕ) k + S4096x512.size k ≤ S4096x512.size k}
    {h1 h1' : ∀ a, (Rect.unit (s := S4096x2048) ![0, b] S4096x512.size ib).stride a = 1}
    {hsrc : (M1.slice (Rect.unit (s := S4096x2048) ![0, b] S4096x512.size ib) h1).view.WordExact} {hdst : (M7 : Memref sig .tc .vmem S4096x512 .f32).view.WordExact}
    {hsrc' : (M1.slice (Rect.unit (s := S4096x2048) ![0, b] S4096x512.size ib) h1').view.WordExact} {hdst' : (M7 : Memref sig .tc .vmem S4096x512 .f32).view.WordExact}
    {hsem : DmaTarget.Typed (nD := nD) (p := (c : Thread nD τ).2) .hbm (.dma wS) (.here M7)}
    {hl₁ : (M7 : Memref sig .tc .vmem S4096x512 .f32).view.LoadsAt (Rect.unit (s := S4096x512) ![0, 0] S4096x512.size i7).toLoadRect}
    {hl₂ : (M6 : Memref sig .tc .vmem S4096x2048 .bf16).view.LoadsAt (Rect.unit (s := S4096x2048) ![0, b] S4096x512.size ib).toLoadRect}
    {hx : ((M6 : Memref sig .tc .vmem S4096x2048 .bf16).access (Rect.unit (s := S4096x2048) ![0, b] S4096x512.size ib)).Stores Finset.univ}
    {hm : (Finset.univ : Finset (Rect.unit (s := S4096x2048) ![0, b] S4096x512.size ib).shape.Idx) = Finset.univ ∨ ∀ a, (Rect.unit (s := S4096x2048) ![0, b] S4096x512.size ib).stride a = 1}
    {pay : Vec F S4096x512 .f32 → Vec F S4096x512 .bf16} (hpay : pay = k0_pay1)
    {k : PUnit → Prog (TpuEff nD τ sig (Elt F) Λ₀ .tc) α} {Q : α → sProp 𝕄} :
    iprop(levAts L lv ∗ own c M1.view Finset.univ fullShare (fun p y => y = Z.wf c p) ∗ own c M7.view Finset.univ fullShare (Any (F := F))
        ∗ semVal ((c : Thread nD τ), .dma wS) 0 ∗ own c M6.view Finset.univ fullShare (RW Z c j) ∗ Ow c (owe c i))
      ⊢ iprop((iprop(own c M1.view Finset.univ fullShare (fun p y => y = Z.wf c p) ∗ own c M7.view Finset.univ fullShare (Any (F := F))
          ∗ semVal ((c : Thread nD τ), .dma wS) 0 ∗ own c M6.view Finset.univ fullShare (RW Z c (j + 1)) ∗ Ow c (owe c i))
          -∗ wp frame (wpE defs 𝒱₀ (c : Thread nD τ) none) Set.univ (k ⟨⟩) Q)
        -∗ wp frame (wpE defs 𝒱₀ (c : Thread nD τ) none) Set.univ
          (.op (.enqueueDma (M1.slice (Rect.unit (s := S4096x2048) ![0, b] S4096x512.size ib) h1) (.here M7) (.dma wS) hsrc hdst hsem) fun _ =>
            .op (.waitDma2 wS (M1.slice (Rect.unit (s := S4096x2048) ![0, b] S4096x512.size ib) h1') M7 hsrc' hdst') fun _ =>
            .op (.load M7 (Rect.unit (s := S4096x512) ![0, 0] S4096x512.size i7).toLoadRect hl₁) fun v =>
            .op (.load M6 (Rect.unit (s := S4096x2048) ![0, b] S4096x512.size ib).toLoadRect hl₂) fun _ =>
            .op (.store M6 (Rect.unit (s := S4096x2048) ![0, b] S4096x512.size ib) (pay v) Finset.univ hx hm) k) Q) := by
  subst hb
  subst hpay
  iintro ⟨Hlev, H1, H7, Hv, H6, HO⟩ HK
  ihave H1 := (own_split c M1.view (B := (Rect.unit (s := S4096x2048) ![0, 512 * j] S4096x512.size ib).set)
    (C := Finset.univ \ (Rect.unit (s := S4096x2048) ![0, 512 * j] S4096x512.size ib).set) (Finset.union_sdiff_of_subset (Finset.subset_univ _)).symm Finset.disjoint_sdiff) $$ H1
  icases H1 with ⟨H1, H1r⟩
  ihave H1 := (Entails.of_eq (own_slice c M1.view (R := fun p y => y = Z.wf c p) (Rect.unit (s := S4096x2048) ![0, 512 * j] S4096x512.size ib) rfl).symm) $$ H1
  have back : iprop(own c M7.view Finset.univ fullShare (fun x y => y = Z.wf c ((Rect.unit (s := S4096x2048) ![0, 512 * j] S4096x512.size ib).emb x))
        ∗ own c (M1.slice (Rect.unit (s := S4096x2048) ![0, 512 * j] S4096x512.size ib) h1).view Finset.univ fullShare (fun x y => y = Z.wf c ((Rect.unit (s := S4096x2048) ![0, 512 * j] S4096x512.size ib).emb x)))
      ⊢ iprop(own c M7.view Finset.univ fullShare (fun x y => y = Z.wf c ((Rect.unit (s := S4096x2048) ![0, 512 * j] S4096x512.size ib).emb x))
        ∗ own c M1.view (Rect.unit (s := S4096x2048) ![0, 512 * j] S4096x512.size ib).set fullShare (fun p y => y = Z.wf c p)) :=
    BIClass.sep_mono BIBase.Entails.refl (Entails.of_eq (own_slice c M1.view (R := fun p y => y = Z.wf c p) (Rect.unit (s := S4096x2048) ![0, 512 * j] S4096x512.size ib) rfl))
  iapply (wp_own_dma defs c (src := M1.slice (Rect.unit (s := S4096x2048) ![0, 512 * j] S4096x512.size ib) h1) (dst := M7)
    ((cc0_scratch4 : Ref sig .tc).dmaCredit S4096x512 .f32) rfl (View.dmaCredit_pos (v := M7.view) (by decide)) back) $$ [H1 H7 Hv]
  · isplitl [H1]; · iexact H1
    isplitl [H7]; · iexact H7
    iexact Hv
  iintro HF
  unfold Ow
  icases HO with ⟨%W, HO⟩
  ihave Hmw := (mayWait_low c (.dma wS) (by decide) i hi) $$ Hlev
  iapply (Transfers.wp_waitLocalO EC 𝒱₀ (c : Thread nD τ) none () rfl) $$ [HF HO Hmw]
  · isplitl [HF]; · iexact HF
    isplitl [HO]; · iexact HO
    iexact Hmw
  iintro ⟨⟨H7, H1⟩, Hv, HO⟩
  iapply (wp_own_load defs c (Finset.subset_univ _)) $$ H7
  iintro %v %hv H7
  iapply (wp_own_load defs c (Finset.subset_univ _)) $$ H6
  iintro %u %hu H6
  iapply (wp_own_store defs c (R' := RW Z c (j + 1)) (Finset.subset_univ _)
    (fun x _ => by
      show k0_pay1 v x = _
      have e : k0_pay1 v = truncf .bf16 v bitsLt_bf16_f32 := cast_same _ _
      rw [e]
      have h := hv x
      rw [emb_zero two_zero i7] at h
      show FloatOps.truncf .bf16 bitsLt_bf16_f32 (v x) = FloatOps.truncf .bf16 bitsLt_bf16_f32 (Z.wf c _)
      rw [h])
    (fun p _ hp x hx hlt => by
      refine hx ?_
      by_contra hge
      refine hp (Rect.mem_set_unit.mpr (Fin.forall_fin_two.mpr ⟨?_, ?_⟩))
      · have : (p 0).val < 4096 := (p 0).isLt
        exact ⟨Nat.zero_le _, by show (p 0).val < 0 + 4096; omega⟩
      · exact ⟨by show 512 * j ≤ (p 1).val; omega, by show (p 1).val < 512 * j + 512; omega⟩)) $$ H6
  iintro H6
  iapply HK
  isplitl [H1 H1r]
  · iapply (own_join c M1.view (B := (Rect.unit (s := S4096x2048) ![0, 512 * j] S4096x512.size ib).set)
      (C := Finset.univ \ (Rect.unit (s := S4096x2048) ![0, 512 * j] S4096x512.size ib).set) (Finset.union_sdiff_of_subset (Finset.subset_univ _)).symm Finset.disjoint_sdiff) $$ [H1 H1r]
    isplitl [H1]; · iexact H1
    iexact H1r
  isplitl [H7]
  · iapply (own_mono c M7.view (fun p _ x _ => trivial)) $$ H7
  isplitl [Hv]; · iexact Hv
  isplitl [H6]; · iexact H6
  iexists _; iexact HO

end
end Cert.KProof
-- ==== Proof.Sched.lean ====
/-
# The handshake and the transfers between devices, as a schedule

A device's barrier receives a unit from either neighbour: with it, the neighbour's buffers this device is to write. A
transfer's send cell returns the rows lent, its receive cell holds the rows received. `send_step`, `recv_wait` and
`send_wait` are the rules for starting a transfer and for the two waits.
-/
module

public import proofs.«01_k».proof.Proof.Tile

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F)

/-! ## The schedule -/

/-- What `nxt d` hands device `d`: its buffer for what comes from the left, and the upper half of the third buffer. -/
def barPayT (d : Dev nD) : sProp 𝕄 :=
  iprop(own (nxt d) M3.view Finset.univ fullShare (Any (F := F)) ∗ own (nxt d) M5.view (rset 0 512) fullShare (Any (F := F)))
/-- What `prv d` hands it. -/
def barPayF (d : Dev nD) : sProp 𝕄 :=
  iprop(own (prv d) M4.view Finset.univ fullShare (Any (F := F)) ∗ own (prv d) M5.view (rset 512 512) fullShare (Any (F := F)))
/-- The rows a transfer borrows. -/
def sndPay (c : Dev nD) (j : Fin 10) : sProp 𝕄 := own c (srcM j).view (rset (legA j) (legH j)) (legQ j) (RX Z (legData c j))
/-- The rows it brings. -/
def rcvPay (c : Dev nD) (j : Fin 10) : sProp 𝕄 := own c (dstM j).view (rset (legA j) (legH j)) fullShare (RX Z (legData (legFrom c j) j))

def dutiesOf : SemLoc sig → Finset Bool := fun
  | .reg _ => Finset.univ
  | .dma q => if 1 ≤ q.val ∧ q.val ≤ 20 then {false} else ∅
def amountOf : SemLoc sig → ℕ := fun
  | .reg _ => 1
  | .dma q => if q.val ≤ 10 then legN (Fin.ofNat 10 (q.val - 1)) else legN (Fin.ofNat 10 (q.val - 11))
def payOf (c : Dev nD) : SemLoc sig → Bool → sProp 𝕄 := fun
  | .reg _, true => barPayT c
  | .reg _, false => barPayF c
  | .dma q, _ => if q.val ≤ 10 then sndPay Z c (Fin.ofNat 10 (q.val - 1)) else rcvPay Z c (Fin.ofNat 10 (q.val - 11))

def Rd : Rounds.Schedule (GSem nD τ sig) Bool 𝕄 where
  duties g r := if r = 0 ∧ g.1.2 = .tc then dutiesOf g.2 else ∅
  unitless _ := False
  amount g _ _ := amountOf g.2
  payload g _ d := payOf Z g.1.1 g.2 d
  amount_pos g _ _ _ := by
    rcases g with ⟨_, _ | q⟩
    · exact Nat.one_pos
    · show 0 < amountOf (.dma q)
      unfold amountOf
      dsimp only
      split <;> exact legN_pos _

instance Rd_storable (g : GSem nD τ sig) (r : ℕ) (d : Bool) : BI.Storable (upEmb : UEmb _ 𝕄) ((Rd Z).payload g r d) := by
  show BI.Storable upEmb (payOf Z g.1.1 g.2 d)
  rcases g with ⟨⟨c, p⟩, _ | q⟩
  · cases d
    · show BI.Storable upEmb (barPayF c); unfold barPayF; infer_instance
    · show BI.Storable upEmb (barPayT c); unfold barPayT; infer_instance
  · show BI.Storable upEmb (if q.val ≤ 10 then sndPay Z c (Fin.ofNat 10 (q.val - 1)) else rcvPay Z c (Fin.ofNat 10 (q.val - 11)))
    unfold sndPay rcvPay
    split <;> infer_instance

theorem snd_val (j : Fin 10) : (sndS j).val ≤ 10 ∧ Fin.ofNat 10 ((sndS j).val - 1) = j := by revert j; decide
theorem slv_snd (j : Fin 10) : slv (.dma (sndS j)) = 0 := by revert j; decide
theorem rcv_val (j : Fin 10) : ¬ (rcvS j).val ≤ 10 ∧ Fin.ofNat 10 ((rcvS j).val - 11) = j := by revert j; decide
theorem duties_snd (c : Dev nD) (j : Fin 10) : (Rd Z).duties (sndCell c j) 0 = {false} := by
  dsimp only [Rd]; rw [if_pos ⟨rfl, rfl⟩]; revert j; decide
theorem duties_rcv (c : Dev nD) (j : Fin 10) : (Rd Z).duties (rcvCell c j) 0 = {false} := by
  dsimp only [Rd]; rw [if_pos ⟨rfl, rfl⟩]; revert j; decide
theorem duties_bar (c : Dev nD) : (Rd Z).duties (barCell c) 0 = Finset.univ := by dsimp only [Rd]; exact if_pos ⟨rfl, rfl⟩
theorem duties_later (g : GSem nD τ sig) : ∀ r, 1 ≤ r → (Rd Z).duties g r = ∅ :=
  fun r hr => if_neg fun h => by omega
theorem amount_snd (c : Dev nD) (j : Fin 10) (d : Bool) : (Rd Z).amount (sndCell c j) 0 d = legN j := by
  show amountOf (.dma (sndS j)) = _
  unfold amountOf; dsimp only
  rw [if_pos (snd_val j).1, (snd_val j).2]
theorem amount_rcv (c : Dev nD) (j : Fin 10) (d : Bool) : (Rd Z).amount (rcvCell c j) 0 d = legN j := by
  show amountOf (.dma (rcvS j)) = _
  unfold amountOf; dsimp only
  rw [if_neg (rcv_val j).1, (rcv_val j).2]
theorem amount_bar (c : Dev nD) (d : Bool) : (Rd Z).amount (barCell c) 0 d = 1 := rfl
theorem payload_snd (c : Dev nD) (j : Fin 10) (d : Bool) : (Rd Z).payload (sndCell c j) 0 d = sndPay Z c j := by
  show payOf Z c (.dma (sndS j)) d = _
  unfold payOf; dsimp only
  rw [if_pos (snd_val j).1, (snd_val j).2]
theorem payload_rcv (c : Dev nD) (j : Fin 10) (d : Bool) : (Rd Z).payload (rcvCell c j) 0 d = rcvPay Z c j := by
  show payOf Z c (.dma (rcvS j)) d = _
  unfold payOf; dsimp only
  rw [if_neg (rcv_val j).1, (rcv_val j).2]
theorem payload_barT (c : Dev nD) : barPayT (F := F) c ⊢ (Rd Z).payload (barCell c) 0 true := BIBase.Entails.refl
theorem payload_barF (c : Dev nD) : barPayF (F := F) c ⊢ (Rd Z).payload (barCell c) 0 false := BIBase.Entails.refl
theorem expect_snd (c : Dev nD) (j : Fin 10) : (Rd Z).expect (sndCell c j) 0 = legN j := by
  unfold Schedule.expect Schedule.amountOf; rw [duties_snd, Finset.sum_singleton, amount_snd]
theorem expect_rcv (c : Dev nD) (j : Fin 10) : (Rd Z).expect (rcvCell c j) 0 = legN j := by
  unfold Schedule.expect Schedule.amountOf; rw [duties_rcv, Finset.sum_singleton, amount_rcv]
theorem expect_bar (c : Dev nD) : (Rd Z).expect (barCell c) 0 = 2 := by
  unfold Schedule.expect Schedule.amountOf
  rw [duties_bar, Finset.sum_congr rfl fun d _ => amount_bar Z c d, Finset.sum_const, Finset.card_univ, Fintype.card_bool, smul_eq_mul]
theorem rest_bar (c : Dev nD) : bigSep ((Rd Z).duties (barCell c) 0 \ ∅) (fun d => (Rd Z).payload (barCell c) 0 d) = iprop(barPayF c ∗ barPayT c) := by
  rw [Finset.sdiff_empty, duties_bar, bigSep_univ_eq_bigSepL [false, true] (by decide) (by decide), bigSepL_cons_cons, bigSepL_singleton]
  rfl

/-! ## The cells' invariants -/

/-- A device's scheduled cells: the barrier's, the ten send cells, the ten receive cells. -/
def ksem (i : Fin 21) : SemLoc sig := if h : i.val = 0 then .reg barS else .dma ⟨i.val, by have := i.isLt; show i.val < 24; omega⟩
abbrev kcell (ci : Dev nD × Fin 21) : GSem nD τ sig := ((ci.1 : Thread nD τ), ksem ci.2)

theorem ksem_inj : Function.Injective ksem := by intro a b; revert a b; decide
theorem ksem_bar : ksem 0 = .reg barS := rfl
theorem ksem_snd (j : Fin 10) : ksem ⟨1 + j.val, by have := j.isLt; omega⟩ = .dma (sndS j) := by revert j; decide
theorem ksem_rcv (j : Fin 10) : ksem ⟨11 + j.val, by have := j.isLt; omega⟩ = .dma (rcvS j) := by revert j; decide

/-- Every device's cells' invariants, and that each is at its first round: known to all devices. -/
def records (K : Dev nD × Fin 21 → ℕ) : sProp 𝕄 :=
  iprop((bigSep Finset.univ fun ck : Dev nD × Fin 21 => cellInv ER (Rd Z) (K ck) (kcell ck))
    ∗ bigSep Finset.univ fun ck : Dev nD × Fin 21 => reached ER (kcell ck) 0)
instance records_persistent (K : Dev nD × Fin 21 → ℕ) : BI.Persistent (records Z K) := by unfold records; infer_instance

variable (K : Dev nD × Fin 21 → ℕ) (c : Dev nD)

theorem inv_at (ck : Dev nD × Fin 21) :
    (bigSep Finset.univ fun ck : Dev nD × Fin 21 => (cellInv ER (Rd Z) (K ck) (kcell ck) : sProp 𝕄)) ⊢ cellInv ER (Rd Z) (K ck) (kcell ck) :=
  bigSep_elim (Finset.mem_univ ck)
omit [FloatOps F] in
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)
theorem rec_at (ck : Dev nD × Fin 21) : records Z K ⊢ iprop(cellInv ER (Rd Z) (K ck) (kcell ck) ∗ reached ER (kcell ck) 0) := by
  unfold records
  iintro ⟨H1, H2⟩
  isplitl [H1]
  · iapply (inv_at Z K ck) $$ H1
  · iapply (reached_at (F := F) ck) $$ H2
theorem rec_bar : records Z K ⊢ iprop(cellInv ER (Rd Z) (K (c, 0)) (barCell c) ∗ reached ER (barCell c) 0) := rec_at Z K (c, 0)
theorem rec_snd (j : Fin 10) : records Z K ⊢ iprop(cellInv ER (Rd Z) (K (c, ⟨1 + j.val, by have := j.isLt; omega⟩)) (sndCell c j) ∗ reached ER (sndCell c j) 0) := by
  have h := rec_at Z K (c, ⟨1 + j.val, by have := j.isLt; omega⟩)
  unfold kcell at h; rw [ksem_snd] at h; exact h
theorem rec_rcv (j : Fin 10) : records Z K ⊢ iprop(cellInv ER (Rd Z) (K (c, ⟨11 + j.val, by have := j.isLt; omega⟩)) (rcvCell c j) ∗ reached ER (rcvCell c j) 0) := by
  have h := rec_at Z K (c, ⟨11 + j.val, by have := j.isLt; omega⟩)
  unfold kcell at h; rw [ksem_rcv] at h; exact h

/-! ## The steps -/

/-- What a device needs to start a transfer, besides the rows; -/
def SndTok (j : Fin 10) : sProp 𝕄 := iprop(dutyTok ER (sndCell c j) 0 false ∗ dutyTok ER (rcvCell (legDst c j) j) 0 false)
/-- to wait for one from a neighbour; -/
def RcvTok (j : Fin 10) : sProp 𝕄 := iprop(atPos ER (rcvCell c j) 0 ∅ 0 ∗ cred (tallyAt (rcvCell c j) () (legN j)))
/-- to wait for the end of one it started. -/
def Sent (j : Fin 10) : sProp 𝕄 := cred (tallyAt (sndCell c j) () (legN j))

variable (defs : Defs nD τ sig (Elt F) Λ₀) {α : Type}

theorem owe_next (j : Fin 10) (k : ℕ) (hk : k + j.val = 9) :
    owe c (k + 1) = owe c k + tallyAt (rcvCell (legDst c j) j) () (legN j) := by
  have e : Fin.ofNat 10 (9 - k) = j := Fin.ext (by have := j.isLt; show (9 - k) % 10 = j.val; omega)
  show owe c k + tallyAt (rcvCell (legDst c (Fin.ofNat 10 (9 - k))) (Fin.ofNat 10 (9 - k))) () (legN (Fin.ofNat 10 (9 - k))) = _
  rw [e]

/-- A transfer to a neighbour is started. -/
theorem send_step (j : Fin 10) (k : ℕ) (hk : k + j.val = 9) {S D : Memref sig .tc .vmem S1024x4096 .bf16} (hS : srcM j = S) (hD : dstM j = D)
    {a h : ℕ} (ha : legA j = a) (hh : legH j = h) {n : Dev nD} (hn : n = legDst c j)
    {ia ia' : ∀ k, (![a, 0] : Fin 2 → ℕ) k + (![h, 4096] : Fin 2 → ℕ) k ≤ S1024x4096.size k}
    {h1 : ∀ x, (Rect.unit (s := S1024x4096) ![a, 0] ![h, 4096] ia).stride x = 1} {h2 : ∀ x, (Rect.unit (s := S1024x4096) ![a, 0] ![h, 4096] ia').stride x = 1}
    {hsc : (D.slice (Rect.unit (s := S1024x4096) ![a, 0] ![h, 4096] ia') h2).view.ref.isScScratch = false}
    {hsrc : (S.slice (Rect.unit (s := S1024x4096) ![a, 0] ![h, 4096] ia) h1).view.WordExact}
    {hdst : (D.slice (Rect.unit (s := S1024x4096) ![a, 0] ![h, 4096] ia') h2).view.WordExact}
    {hsem : DmaTarget.Typed (p := (c : Thread nD τ).2) .vmem (.dma (rcvS j))
      (.remote (Dev.tc n : Thread nD τ) (D.slice (Rect.unit (s := S1024x4096) ![a, 0] ![h, 4096] ia') h2) (.dma (sndS j)) hsc)}
    {kk : PUnit → Prog (TpuEff nD τ sig (Elt F) Λ₀ .tc) α} {Q : α → sProp 𝕄} :
    iprop(records Z K ∗ SndTok c j ∗ own c S.view (rset a h) (legQ j) (RX Z (legData c j)) ∗ own (legDst c j) D.view (rset a h) fullShare (Any (F := F)) ∗ Ow c (owe c (k + 1)))
      ⊢ iprop((iprop(Sent c j ∗ Ow c (owe c k)) -∗ wp frame (wpE defs 𝒱₀ (c : Thread nD τ) none) Set.univ (kk ⟨⟩) Q)
        -∗ wp frame (wpE defs 𝒱₀ (c : Thread nD τ) none) Set.univ
          (.op (.enqueueDma (S.slice (Rect.unit (s := S1024x4096) ![a, 0] ![h, 4096] ia) h1)
            (.remote (Dev.tc n : Thread nD τ) (D.slice (Rect.unit (s := S1024x4096) ![a, 0] ![h, 4096] ia') h2) (.dma (sndS j)) hsc) (.dma (rcvS j)) hsrc hdst hsem) kk) Q) := by
  subst hS hD ha hh hn
  have hset : rset (legA j) (legH j) = (Rect.unit (s := S1024x4096) ![legA j, 0] ![legH j, 4096] ia).set := rset_rect _ _ ia
  have p1 : own c ((srcM j).slice (Rect.unit (s := S1024x4096) ![legA j, 0] ![legH j, 4096] ia) h1).view Finset.univ (legQ j)
      (fun x y => RX Z (legData c j) ((Rect.unit (s := S1024x4096) ![legA j, 0] ![legH j, 4096] ia).emb x) y) = sndPay Z c j :=
    own_slice c (srcM j).view (R := RX Z (legData c j)) (Rect.unit (s := S1024x4096) ![legA j, 0] ![legH j, 4096] ia) hset
  have p2 : own (legDst c j) ((dstM j).slice (Rect.unit (s := S1024x4096) ![legA j, 0] ![legH j, 4096] ia') h2).view Finset.univ fullShare
      (fun x y => RX Z (legData c j) ((Rect.unit (s := S1024x4096) ![legA j, 0] ![legH j, 4096] ia').emb x) y) = rcvPay Z (legDst c j) j := by
    have h := own_slice (legDst c j) (dstM j).view (q := fullShare) (R := RX Z (legData c j)) (Rect.unit (s := S1024x4096) ![legA j, 0] ![legH j, 4096] ia') hset
    unfold rcvPay; rw [legFrom_dst]; exact h
  have p3 : own (legDst c j) ((dstM j).slice (Rect.unit (s := S1024x4096) ![legA j, 0] ![legH j, 4096] ia') h2).view Finset.univ fullShare (Any (F := F))
      = own (legDst c j) (dstM j).view (rset (legA j) (legH j)) fullShare (Any (F := F)) :=
    own_slice (legDst c j) (dstM j).view (q := fullShare) (R := Any (F := F)) (Rect.unit (s := S1024x4096) ![legA j, 0] ![legH j, 4096] ia') hset
  rw [show own c (srcM j).view (rset (legA j) (legH j)) (legQ j) (RX Z (legData c j)) = _ from p1.symm, ← p3]
  unfold SndTok Ow Sent
  iintro ⟨#HR, ⟨Ht1, Ht2⟩, Hs, Hd, ⟨%W, HO⟩⟩ HK
  ihave H1 := (rec_snd Z K c j) $$ HR
  icases H1 with ⟨HI1, Hr1⟩
  ihave H2 := (rec_rcv Z K (legDst c j) j) $$ HR
  icases H2 with ⟨HI2, Hr2⟩
  iapply (wp_own_send defs c (Rd Z) (legDst c j) (by rw [duties_snd]; exact Finset.mem_singleton_self _) (by rw [duties_rcv]; exact Finset.mem_singleton_self _)
    (legN j) rfl (amount_snd Z c j false) (amount_rcv Z (legDst c j) j false) (owe c k) (owe_next c j k hk)
    (by rw [payload_snd]; exact Entails.of_eq p1) (by rw [payload_rcv]; exact Entails.of_eq p2)) $$ [HI1 HI2 Hs Hd HO Ht1 Hr1 Ht2 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply HK
  isplitl [Hc]; · iexact Hc
  iexists W; iexact HO

/-- A wait on a transfer's cell takes its payload, and the cell is done. -/
theorem cell_wait (q : DmaSem sig) (κ : ℕ) (i : ℕ) (N : ℕ) {P : sProp 𝕄}
    (hd : (Rd Z).duties ((c : Thread nD τ), .dma q) 0 = {false}) (he : (Rd Z).expect ((c : Thread nD τ), .dma q) 0 = N)
    (hp : (Rd Z).payload ((c : Thread nD τ), .dma q) 0 false = P)
    (hm : (levAts L lv : sProp 𝕄) ⊢ MayWait (c : Thread nD τ) (.dma q) () (owe c i))
    {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = N) {k : PUnit → Prog (TpuEff nD τ sig (Elt F) Λ₀ .tc) α} {Q : α → sProp 𝕄} :
    iprop(levAts L lv ∗ cellInv ER (Rd Z) κ ((c : Thread nD τ), .dma q) ∗ atPos ER ((c : Thread nD τ), .dma q) 0 ∅ 0
        ∗ cred (tallyAt ((c : Thread nD τ), SemLoc.dma q) () N) ∗ Ow c (owe c i))
      ⊢ iprop((iprop(P ∗ semVal ((c : Thread nD τ), .dma q) 0 ∗ Ow c (owe c i)) -∗ wp frame (wpE defs 𝒱₀ (c : Thread nD τ) none) Set.univ (k ⟨⟩) Q)
        -∗ wp frame (wpE defs 𝒱₀ (c : Thread nD τ) none) Set.univ (.op (.waitDma2 q srcw dstw hsrc hdst) k) Q) := by
  subst hN
  unfold Ow
  iintro ⟨Hlev, #HI, Hat, Hc, ⟨%W, HO⟩⟩ HK
  ihave Hmw := hm $$ Hlev
  iapply (Rounds.wp_wait_rest_token 𝒱₀ ER (Rd Z) (c : Thread nD τ) none (κ := κ)
      (wpE_waitDma2_eq 𝒱₀ (c : Thread nD τ) none Set.univ) (Set.mem_univ _) () (O := owe c i) (W := W) (R := 0) (m := 0) (T := ∅)
      (by rw [Nat.zero_add, he])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (Rd Z) (Set.mem_univ κ) (fun h => h) (R := 0 + 1) (duties_later Z ((c : Thread nD τ), SemLoc.dma q))) $$ [Hat] with Hz
  · isplitr; · iexact HI
    iexact Hat
  iapply HK
  isplitl [Hpay]
  · iapply (Entails.of_eq (show bigSep ((Rd Z).duties ((c : Thread nD τ), .dma q) 0 \ ∅) (fun d => (Rd Z).payload ((c : Thread nD τ), .dma q) 0 d) = P by
      rw [Finset.sdiff_empty, hd, bigSep_singleton, hp]))
    iexact Hpay
  isplitl [Hz]; · iexact Hz
  iexists _; iexact HO

/-- The wait for a transfer from a neighbour. -/
theorem recv_wait (j : Fin 10) (i : ℕ) (hi : i ≤ 6) (hj : i = 0 ∨ j.val < 4)
    {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = legN j) {k : PUnit → Prog (TpuEff nD τ sig (Elt F) Λ₀ .tc) α} {Q : α → sProp 𝕄} :
    iprop(levAts L lv ∗ records Z K ∗ RcvTok c j ∗ Ow c (owe c i))
      ⊢ iprop((iprop(rcvPay Z c j ∗ semVal (rcvCell c j) 0 ∗ Ow c (owe c i)) -∗ wp frame (wpE defs 𝒱₀ (c : Thread nD τ) none) Set.univ (k ⟨⟩) Q)
        -∗ wp frame (wpE defs 𝒱₀ (c : Thread nD τ) none) Set.univ (.op (.waitDma2 (rcvS j) srcw dstw hsrc hdst) k) Q) := by
  unfold RcvTok
  iintro ⟨Hlev, HR, ⟨Hat, Hc⟩, HO⟩
  ihave H1 := (rec_rcv Z K c j) $$ HR
  icases H1 with ⟨HI, -⟩
  iapply (cell_wait Z c defs (rcvS j) _ i (legN j) (duties_rcv Z c j) (expect_rcv Z c j) (payload_rcv Z c j false) (mayWait_rcv c j i hi hj) hN)
  isplitl [Hlev]; · iexact Hlev
  isplitl [HI]; · iexact HI
  isplitl [Hat]; · iexact Hat
  isplitl [Hc]; · iexact Hc
  iexact HO

/-- The wait for the end of a transfer to a neighbour. -/
theorem send_wait (j : Fin 10)
    {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = legN j) {k : PUnit → Prog (TpuEff nD τ sig (Elt F) Λ₀ .tc) α} {Q : α → sProp 𝕄} :
    iprop(levAts L lv ∗ records Z K ∗ atPos ER (sndCell c j) 0 ∅ 0 ∗ Sent c j ∗ Ow c (owe c 0))
      ⊢ iprop((iprop(sndPay Z c j ∗ semVal (sndCell c j) 0 ∗ Ow c (owe c 0)) -∗ wp frame (wpE defs 𝒱₀ (c : Thread nD τ) none) Set.univ (k ⟨⟩) Q)
        -∗ wp frame (wpE defs 𝒱₀ (c : Thread nD τ) none) Set.univ (.op (.waitDma2 (sndS j) srcw dstw hsrc hdst) k) Q) := by
  unfold Sent
  iintro ⟨Hlev, HR, Hat, Hc, HO⟩
  ihave H1 := (rec_snd Z K c j) $$ HR
  icases H1 with ⟨HI, -⟩
  iapply (cell_wait Z c defs (sndS j) _ 0 (legN j) (duties_snd Z c j) (expect_snd Z c j) (payload_snd Z c j false)
    (mayWait_low c _ (slv_snd j) 0 (Nat.zero_le _)) hN)
  isplitl [Hlev]; · iexact Hlev
  isplitl [HI]; · iexact HI
  isplitl [Hat]; · iexact Hat
  isplitl [Hc]; · iexact Hc
  iexact HO

end
end Cert.KProof
-- ==== Proof.Step.lean ====
/-
# A tile, with the wait before it

From the third tile on, a tile begins with the wait for the store of the tile before last: `tile_step` is both.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F) (c : Dev nD)

/-- Before tile `n`, reading rows `A` of `M`, a part of device `d`'s block of `x`, while the last `i` transfers are owed. -/
def Run (n : ℕ) (M : Memref sig .tc .vmem S1024x4096 .bf16) (A : Finset Xi) (q : PosShare TreeShare) (d : Dev nD) (J i : ℕ) : sProp 𝕄 :=
  iprop(levAts L lv ∗ St2 Z c n ∗ own c M.view A q (RX Z d) ∗ own c M6.view Finset.univ fullShare (RW Z c J) ∗ Ow c (owe c i))

/-- Tile `n` is columns `512 j` on of rows `a` to `a + H` of device `d`'s part, and uses slot `s`. -/
def TileAt (n H s a j : ℕ) (d : Dev nD) : Prop :=
  n < 44 ∧ n % 2 = s ∧ gOff (n / 4) = a ∧ gLen (n / 4) = H ∧ gSrc c (n / 4) = d ∧ n % 4 = j ∧ 0 < H

variable (defs : Defs nD τ sig (Elt F) Λ₀) {α : Type}

theorem tile_step (m H s a j b J i : ℕ) (d : Dev nD) (hT : TileAt c (m + 2) H s a j d) (hi : i ≤ 10) (hb : 512 * j = b) (hJ : j < J)
    {st : DmaSem sig} (hst : st = stS s)
    {pay₀ : Vec F ⟨2, ![H, 4096]⟩ .bf16 → Vec F S4096x512 .bf16 → Vec F ⟨3, ![1, H, 512]⟩ .bf16}
    (hsq : (⟨3, ![1, H, 512]⟩ : Shape).Squeezes ⟨2, ![H, 512]⟩)
    (hfit : FitsAt Z.xb Z.wf Z.RO H hsq.numel_eq pay₀)
    {M : Memref sig .tc .vmem S1024x4096 .bf16} {A : Finset Xi} {q : PosShare TreeShare}
    (hA : rset a H ⊆ A)
    {sp sp' : Space} {s₁ s₂ : Shape} {e₁ e₂ : EltTy}
    {srcw : Memref sig .tc sp' s₂ e₂} {dstw : Memref sig .tc sp s₁ e₁} {hsrcw : srcw.view.WordExact} {hdstw : dstw.view.WordExact}
    (hN : dstw.view.dmaCredit = cr m)
    {ia : ∀ k, (![a, 0] : Fin 2 → ℕ) k + (![H, 4096] : Fin 2 → ℕ) k ≤ S1024x4096.size k}
    {ib : ∀ k, (![0, b] : Fin 2 → ℕ) k + S4096x512.size k ≤ S4096x2048.size k}
    {iy : ∀ k, (![s, 0, 0] : Fin 3 → ℕ) k + (![1, H, 512] : Fin 3 → ℕ) k ≤ S2x1024x512.size k}
    {off : Fin 2 → ℕ} (hoff : off = ![1024 * d.val + a, b])
    {io : ∀ k, off k + (![H, 512] : Fin 2 → ℕ) k ≤ S4096x2048.size k}
    {hl₁ : M.view.LoadsAt (Rect.unit (s := S1024x4096) ![a, 0] ![H, 4096] ia).toLoadRect}
    {hl₂ : (M6 : Memref sig .tc .vmem S4096x2048 .bf16).view.LoadsAt (Rect.unit (s := S4096x2048) ![0, b] S4096x512.size ib).toLoadRect}
    {hl₃ : (M8 : Memref sig .tc .vmem S2x1024x512 .bf16).view.LoadsAt (Rect.unit (s := S2x1024x512) ![s, 0, 0] ![1, H, 512] iy).toLoadRect}
    {hx : ((M8 : Memref sig .tc .vmem S2x1024x512 .bf16).access (Rect.unit (s := S2x1024x512) ![s, 0, 0] ![1, H, 512] iy)).Stores Finset.univ}
    {hm : (Finset.univ : Finset (Rect.unit (s := S2x1024x512) ![s, 0, 0] ![1, H, 512] iy).shape.Idx) = Finset.univ ∨ ∀ a, (Rect.unit (s := S2x1024x512) ![s, 0, 0] ![1, H, 512] iy).stride a = 1}
    {pay : Vec F ⟨2, ![H, 4096]⟩ .bf16 → Vec F S4096x512 .bf16 → Vec F ⟨3, ![1, H, 512]⟩ .bf16} (hpay : pay = pay₀)
    {h8 : ∀ a, (Rect.unit (s := S2x1024x512) ![s, 0, 0] ![1, H, 512] iy).stride a = 1} {h2 : ∀ a, (Rect.unit (s := S4096x2048) off ![H, 512] io).stride a = 1}
    {hsrc : ((M8.slice (Rect.unit (s := S2x1024x512) ![s, 0, 0] ![1, H, 512] iy) h8).squeeze ⟨2, ![H, 512]⟩ hsq).view.WordExact}
    {hdst : (M2.slice (Rect.unit (s := S4096x2048) off ![H, 512] io) h2).view.WordExact}
    {hsem : DmaTarget.Typed (nD := nD) (p := (c : Thread nD τ).2) .vmem (.dma st) (.here (M2.slice (Rect.unit (s := S4096x2048) off ![H, 512] io) h2))}
    {k : PUnit → Prog (TpuEff nD τ sig (Elt F) Λ₀ .tc) α} {Q : α → sProp 𝕄} :
    Run Z c (m + 2) M A q d J i
      ⊢ iprop((Run Z c (m + 3) M A q d J i -∗ wp frame (wpE defs 𝒱₀ (c : Thread nD τ) none) Set.univ (k ⟨⟩) Q)
        -∗ wp frame (wpE defs 𝒱₀ (c : Thread nD τ) none) Set.univ
          (.op (.waitDma2 st srcw dstw hsrcw hdstw) fun _ =>
            .op (.load M (Rect.unit (s := S1024x4096) ![a, 0] ![H, 4096] ia).toLoadRect hl₁) fun v =>
            .op (.load M6 (Rect.unit (s := S4096x2048) ![0, b] S4096x512.size ib).toLoadRect hl₂) fun u =>
            .op (.load M8 (Rect.unit (s := S2x1024x512) ![s, 0, 0] ![1, H, 512] iy).toLoadRect hl₃) fun _ =>
            .op (.store M8 (Rect.unit (s := S2x1024x512) ![s, 0, 0] ![1, H, 512] iy) (pay v u) Finset.univ hx hm) fun _ =>
            .op (.enqueueDma ((M8.slice (Rect.unit (s := S2x1024x512) ![s, 0, 0] ![1, H, 512] iy) h8).squeeze ⟨2, ![H, 512]⟩ hsq)
              (.here (M2.slice (Rect.unit (s := S4096x2048) off ![H, 512] io) h2)) (.dma st) hsrc hdst hsem) k) Q) := by
  subst hb hst
  obtain ⟨hn, hs, ha, hH, hd, hj, hpos⟩ := hT
  have hA' : (Rect.unit (s := S1024x4096) ![a, 0] ![H, 4096] ia).set ⊆ A := by rw [← rset_rect a H ia]; exact hA
  unfold Run
  iintro ⟨#Hlev, HS, HX, HW, HO⟩ HK
  iapply (wait_store Z c defs m (by rw [← hs]; congr 1; omega) i hi hN) $$ [HS HO]
  · isplitr; · iexact Hlev
    isplitl [HS]; · iexact HS
    iexact HO
  iintro ⟨HS, HO⟩
  iapply (tile_core Z c defs H (m + 2) s a j J d hn hs ha hH hd hj hJ hpos rfl rfl hsq hfit hA' hoff hpay) $$ [HS HX HW]
  · isplitl [HS]; · iexact HS
    isplitl [HX]; · iexact HX
    iexact HW
  iintro ⟨HS, HX, HW⟩
  iapply HK
  isplitr; · iexact Hlev
  isplitl [HS]; · iexact HS
  isplitl [HX]; · iexact HX
  isplitl [HW]; · iexact HW
  iexact HO

variable (K : Dev nD × Fin 21 → ℕ)

/-- `send_step`, the transfer's rows and neighbour spelt out. -/
theorem send_rows (j : Fin 10) (k : ℕ) (hk : k + j.val = 9) {S D : Memref sig .tc .vmem S1024x4096 .bf16} (hS : srcM j = S) (hD : dstM j = D)
    {a h : ℕ} (ha : legA j = a) (hh : legH j = h) {n n' d : Dev nD} (hn : n = n') (hn' : legDst c j = n') (hd : legData c j = d) {q : PosShare TreeShare} (hq : legQ j = q)
    {s₁ s₂ : DmaSem sig} (hs₁ : s₁ = sndS j) (hs₂ : s₂ = rcvS j)
    {ia ia' : ∀ k, (![a, 0] : Fin 2 → ℕ) k + (![h, 4096] : Fin 2 → ℕ) k ≤ S1024x4096.size k}
    {h1 : ∀ x, (Rect.unit (s := S1024x4096) ![a, 0] ![h, 4096] ia).stride x = 1} {h2 : ∀ x, (Rect.unit (s := S1024x4096) ![a, 0] ![h, 4096] ia').stride x = 1}
    {hsc : (D.slice (Rect.unit (s := S1024x4096) ![a, 0] ![h, 4096] ia') h2).view.ref.isScScratch = false}
    {hsrc : (S.slice (Rect.unit (s := S1024x4096) ![a, 0] ![h, 4096] ia) h1).view.WordExact}
    {hdst : (D.slice (Rect.unit (s := S1024x4096) ![a, 0] ![h, 4096] ia') h2).view.WordExact}
    {hsem : DmaTarget.Typed (p := (c : Thread nD τ).2) .vmem (.dma s₂)
      (.remote (Dev.tc n : Thread nD τ) (D.slice (Rect.unit (s := S1024x4096) ![a, 0] ![h, 4096] ia') h2) (.dma s₁) hsc)}
    {kk : PUnit → Prog (TpuEff nD τ sig (Elt F) Λ₀ .tc) α} {Q : α → sProp 𝕄} :
    iprop(records Z K ∗ SndTok c j ∗ own c S.view (rset a h) q (RX Z d) ∗ own n' D.view (rset a h) fullShare (Any (F := F)) ∗ Ow c (owe c (k + 1)))
      ⊢ iprop((iprop(Sent c j ∗ Ow c (owe c k)) -∗ wp frame (wpE defs 𝒱₀ (c : Thread nD τ) none) Set.univ (kk ⟨⟩) Q)
        -∗ wp frame (wpE defs 𝒱₀ (c : Thread nD τ) none) Set.univ
          (.op (.enqueueDma (S.slice (Rect.unit (s := S1024x4096) ![a, 0] ![h, 4096] ia) h1)
            (.remote (Dev.tc n : Thread nD τ) (D.slice (Rect.unit (s := S1024x4096) ![a, 0] ![h, 4096] ia') h2) (.dma s₁) hsc) (.dma s₂) hsrc hdst hsem) kk) Q) := by
  subst hn hn' hd hq hs₁ hs₂
  exact send_step Z K c defs j k hk hS hD ha hh rfl

/-- `send_rows` between tiles. -/
theorem send_run (j : Fin 10) (k : ℕ) (hk : k + j.val = 9) {S D : Memref sig .tc .vmem S1024x4096 .bf16} (hS : srcM j = S) (hD : dstM j = D)
    {a h : ℕ} (ha : legA j = a) (hh : legH j = h) {n n' d : Dev nD} (hn : n = n') (hn' : legDst c j = n') (hd : legData c j = d) {q : PosShare TreeShare} (hq : legQ j = q)
    {s₁ s₂ : DmaSem sig} (hs₁ : s₁ = sndS j) (hs₂ : s₂ = rcvS j)
    {t J : ℕ} {M : Memref sig .tc .vmem S1024x4096 .bf16} {A : Finset Xi} {q' : PosShare TreeShare} {d' : Dev nD}
    {ia ia' : ∀ k, (![a, 0] : Fin 2 → ℕ) k + (![h, 4096] : Fin 2 → ℕ) k ≤ S1024x4096.size k}
    {h1 : ∀ x, (Rect.unit (s := S1024x4096) ![a, 0] ![h, 4096] ia).stride x = 1} {h2 : ∀ x, (Rect.unit (s := S1024x4096) ![a, 0] ![h, 4096] ia').stride x = 1}
    {hsc : (D.slice (Rect.unit (s := S1024x4096) ![a, 0] ![h, 4096] ia') h2).view.ref.isScScratch = false}
    {hsrc : (S.slice (Rect.unit (s := S1024x4096) ![a, 0] ![h, 4096] ia) h1).view.WordExact}
    {hdst : (D.slice (Rect.unit (s := S1024x4096) ![a, 0] ![h, 4096] ia') h2).view.WordExact}
    {hsem : DmaTarget.Typed (p := (c : Thread nD τ).2) .vmem (.dma s₂)
      (.remote (Dev.tc n : Thread nD τ) (D.slice (Rect.unit (s := S1024x4096) ![a, 0] ![h, 4096] ia') h2) (.dma s₁) hsc)}
    {kk : PUnit → Prog (TpuEff nD τ sig (Elt F) Λ₀ .tc) α} {Q : α → sProp 𝕄} :
    iprop(Run Z c t M A q' d' J (k + 1) ∗ records Z K ∗ SndTok c j ∗ own c S.view (rset a h) q (RX Z d) ∗ own n' D.view (rset a h) fullShare (Any (F := F)))
      ⊢ iprop((iprop(Sent c j ∗ Run Z c t M A q' d' J k) -∗ wp frame (wpE defs 𝒱₀ (c : Thread nD τ) none) Set.univ (kk ⟨⟩) Q)
        -∗ wp frame (wpE defs 𝒱₀ (c : Thread nD τ) none) Set.univ
          (.op (.enqueueDma (S.slice (Rect.unit (s := S1024x4096) ![a, 0] ![h, 4096] ia) h1)
            (.remote (Dev.tc n : Thread nD τ) (D.slice (Rect.unit (s := S1024x4096) ![a, 0] ![h, 4096] ia') h2) (.dma s₁) hsc) (.dma s₂) hsrc hdst hsem) kk) Q) := by
  unfold Run
  iintro ⟨⟨Hlev, HS, HX, HW, HO⟩, HR, Ht, Ha, Hb⟩ HK
  iapply (send_rows Z c defs K j k hk hS hD ha hh hn hn' hd hq hs₁ hs₂) $$ [HR Ht Ha Hb HO]
  · isplitl [HR]; · iexact HR
    isplitl [Ht]; · iexact Ht
    isplitl [Ha]; · iexact Ha
    isplitl [Hb]; · iexact Hb
    iexact HO
  iintro ⟨Hs, HO⟩
  iapply HK
  isplitl [Hs]; · iexact Hs
  isplitl [Hlev]; · iexact Hlev
  isplitl [HS]; · iexact HS
  isplitl [HX]; · iexact HX
  isplitl [HW]; · iexact HW
  iexact HO

/-- Rows are waited for; the tiles after read them. -/
theorem recv_run (j : Fin 10) (i : ℕ) (hi : i ≤ 6) (hj : i = 0 ∨ j.val < 4) (D : Memref sig .tc .vmem S1024x4096 .bf16) (a h : ℕ) (d : Dev nD) (hD : dstM j = D)
    (ha : legA j = a) (hh : legH j = h) (hd : legData (legFrom c j) j = d) {st : DmaSem sig} (hst : st = rcvS j)
    {t J : ℕ} {M : Memref sig .tc .vmem S1024x4096 .bf16} {A : Finset Xi} {q' : PosShare TreeShare} {d' : Dev nD}
    {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = legN j) {k : PUnit → Prog (TpuEff nD τ sig (Elt F) Λ₀ .tc) α} {Q : α → sProp 𝕄} :
    iprop(Run Z c t M A q' d' J i ∗ records Z K ∗ RcvTok c j)
      ⊢ iprop((iprop(own c M.view A q' (RX Z d') ∗ semVal (rcvCell c j) 0 ∗ Run Z c t D (rset a h) fullShare d J i)
          -∗ wp frame (wpE defs 𝒱₀ (c : Thread nD τ) none) Set.univ (k ⟨⟩) Q)
        -∗ wp frame (wpE defs 𝒱₀ (c : Thread nD τ) none) Set.univ (.op (.waitDma2 st srcw dstw hsrc hdst) k) Q) := by
  subst hD ha hh hd hst
  unfold Run
  iintro ⟨⟨#Hlev, HS, HX, HW, HO⟩, HR, Ht⟩ HK
  iapply (recv_wait Z K c defs j i hi hj hN) $$ [HR Ht HO]
  · isplitr; · iexact Hlev
    isplitl [HR]; · iexact HR
    isplitl [Ht]; · iexact Ht
    iexact HO
  unfold rcvPay
  iintro ⟨HY, Hv, HO⟩
  iapply HK
  isplitl [HX]; · iexact HX
  isplitl [Hv]; · iexact Hv
  isplitr; · iexact Hlev
  isplitl [HS]; · iexact HS
  isplitl [HY]; · iexact HY
  isplitl [HW]; · iexact HW
  iexact HO

/-- The rows the tiles read are lent in part. -/
theorem run_share {t J i : ℕ} {M : Memref sig .tc .vmem S1024x4096 .bf16} {A : Finset Xi} {d : Dev nD} :
    Run Z c t M A fullShare d J i ⊢ iprop(own c M.view A fullShare.right (RX Z d) ∗ Run Z c t M A fullShare.left d J i) := by
  unfold Run
  iintro ⟨Hlev, HS, HX, HW, HO⟩
  ihave HX := (own_share c M.view (PosShare.mem_left_op_right fullShare)) $$ HX
  icases HX with ⟨HX, HY⟩
  isplitl [HY]; · iexact HY
  isplitl [Hlev]; · iexact Hlev
  isplitl [HS]; · iexact HS
  isplitl [HX]; · iexact HX
  isplitl [HW]; · iexact HW
  iexact HO

/-- Rows in two parts. -/
theorem rows_split (c' : Dev nD) (M : Memref sig .tc .vmem S1024x4096 .bf16) (a h h' : ℕ) {H a' : ℕ} (hH : h + h' = H) (ha : a + h = a') {q : PosShare TreeShare}
    {R : Xi → Elt F .bf16 → Prop} : own c' M.view (rset a H) q R ⊢ iprop(own c' M.view (rset a h) q R ∗ own c' M.view (rset a' h') q R) := by
  subst hH ha; exact own_split c' M.view (rset_split a h h') (rset_disj a h h')
theorem rows_join (c' : Dev nD) (M : Memref sig .tc .vmem S1024x4096 .bf16) (a h h' : ℕ) {H a' : ℕ} (hH : h + h' = H) (ha : a + h = a') {q : PosShare TreeShare}
    {R : Xi → Elt F .bf16 → Prop} : iprop(own c' M.view (rset a h) q R ∗ own c' M.view (rset a' h') q R) ⊢ own c' M.view (rset a H) q R := by
  subst hH ha; exact own_join c' M.view (rset_split a h h') (rset_disj a h h')

/-- The body's arguments. -/
abbrev pr {γ : Type 1} (f : (arg0 : Memref sig .tc .vmem S1024x4096 .bf16) → arg0.IsWhole → (arg1 : Memref sig .tc .hbm S4096x2048 .f32) → arg1.IsWhole
    → (arg2 : Memref sig .tc .hbm S4096x2048 .bf16) → arg2.IsWhole → (arg3 : Memref sig .tc .vmem S1024x4096 .bf16) → arg3.IsWhole
    → (arg4 : Memref sig .tc .vmem S1024x4096 .bf16) → arg4.IsWhole → (arg5 : Memref sig .tc .vmem S1024x4096 .bf16) → arg5.IsWhole
    → (arg6 : Memref sig .tc .vmem S4096x2048 .bf16) → arg6.IsWhole → (arg7 : Memref sig .tc .vmem S4096x512 .f32) → arg7.IsWhole
    → (arg8 : Memref sig .tc .vmem S2x1024x512 .bf16) → arg8.IsWhole → DmaSems sig S10 → DmaSems sig S10 → DmaSems sig S2 → DmaSems sig S_ → γ) : γ :=
  f M0 (Memref.isWhole_whole _) M1 (Memref.isWhole_whole _) M2 (Memref.isWhole_whole _) M3 (Memref.isWhole_whole _) M4 (Memref.isWhole_whole _)
    M5 (Memref.isWhole_whole _) M6 (Memref.isWhole_whole _) M7 (Memref.isWhole_whole _) M8 (Memref.isWhole_whole _) cc0_scratch6 cc0_scratch7 cc0_scratch8 cc0_scratch9
end
end Cert.KProof
-- ==== Proof.Head.lean ====
/-
# The body, to its twentieth tile

The handshake, the first four transfers, the device's own tiles, and those of the rows its neighbours send first.
-/
module

public import proofs.«01_k».proof.Proof.Step

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F) (K : Dev nD × Fin 21 → ℕ) (c : Dev nD) (defs : Defs nD τ sig (Elt F) Λ₀) {α : Type}

/-- The handshake: the neighbours' buffers are this device's to write. -/
theorem seg1 {k : (Σ' (d0 : Dev nD) (v2 : BitVec 32) (v13 : BitVec 32), BitVec 32) → Prog (TpuEff nD τ sig (Elt F) Λ₀ .tc) α} {Q : α → sProp 𝕄} :
    iprop(levAts L lv ∗ records Z K ∗ Ow c (O₀ c) ∗ dutyTok ER (barCell (prv c)) 0 true ∗ dutyTok ER (barCell (nxt c)) 0 false
        ∗ barPayT (F := F) (prv c) ∗ barPayF (F := F) (nxt c) ∗ atPos ER (barCell c) 0 ∅ 0 ∗ cred (tallyAt (barCell c) () 2))
      ⊢ iprop((∀ a : BitVec 32, ∀ b : BitVec 32, ∀ d : BitVec 32, iprop(barPayT (F := F) c ∗ barPayF (F := F) c ∗ semVal (barCell c) 0 ∗ Ow c (owe c 10))
            -∗ wp frame (wpE defs 𝒱₀ (c : Thread nD τ) none) Set.univ (k ⟨c, a, b, d⟩) Q)
          -∗ wp frame (wpE defs 𝒱₀ (c : Thread nD τ) none) Set.univ (pr k0_part1 >>= k) Q) := by
  simp only [pr, k0_part1_eq_skeleton]; unfold k0_part1_skel
  simp only [semSignalWord, semWaitWord, Prog.lift, Prog.bind_op, Prog.bind_ret, Prog.pure_eq_ret, Prog.bind_assoc, wp_deviceId, dev1_eq c, dev2_eq c]
  unfold Ow O₀
  iintro ⟨#Hlev, #HR, ⟨%W, HO⟩, Ht1, Ht2, Hp1, Hp2, Hat, Hc⟩ HK
  ihave H1 := (rec_bar Z K (prv c)) $$ HR
  icases H1 with ⟨HI, Hr⟩
  iapply (Rounds.wp_signal 𝒱₀ ER (Rd Z) (c : Thread nD τ) none (dst := (prv c : Thread nD τ)) (κ := K (prv c, 0))
      (d := true) (by rw [duties_bar]; exact Finset.mem_univ _) ((amount_bar Z (prv c) true).trans (by decide)) () (O₁ c) rfl)
    $$ [HI HO Ht1 Hp1 Hr]
  · isplitl [HI]; · iexact HI
    isplitl [HO]; · iexact HO
    isplitl [Ht1]; · iexact Ht1
    isplitl [Hp1]; · iapply (payload_barT Z (prv c)) $$ Hp1
    iexact Hr
  iintro HO
  unfold O₁
  ihave H1 := (rec_bar Z K (nxt c)) $$ HR
  icases H1 with ⟨HI, Hr⟩
  iapply (Rounds.wp_signal 𝒱₀ ER (Rd Z) (c : Thread nD τ) none (dst := (nxt c : Thread nD τ)) (κ := K (nxt c, 0))
      (d := false) (by rw [duties_bar]; exact Finset.mem_univ _) ((amount_bar Z (nxt c) false).trans (by decide)) () (owe c 10) rfl)
    $$ [HI HO Ht2 Hp2 Hr]
  · isplitl [HI]; · iexact HI
    isplitl [HO]; · iexact HO
    isplitl [Ht2]; · iexact Ht2
    isplitl [Hp2]; · iapply (payload_barF Z (nxt c)) $$ Hp2
    iexact Hr
  iintro HO
  ihave H1 := (rec_bar Z K c) $$ HR
  icases H1 with ⟨#HI, -⟩
  ihave Hm := (mayWait_bar c) $$ Hlev
  iapply (Rounds.wp_wait_rest_token 𝒱₀ ER (Rd Z) (c : Thread nD τ) none (κ := K (c, 0))
      (wpE_semWait_eq 𝒱₀ (c : Thread nD τ) none Set.univ) (Set.mem_univ _) () (O := owe c 10) (W := W) (R := 0) (m := 0) (T := ∅)
      (by rw [expect_bar]; decide)) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_bar Z c)) $$ Hpay
  icases Hp with ⟨HpF, HpT⟩
  imod (Rounds.cell_close ER (Rd Z) (Set.mem_univ (K (c, 0))) (fun h => h) (R := 0 + 1) (duties_later Z (barCell c))) $$ [Hat] with Hz
  · isplitr; · iexact HI
    iexact Hat
  iapply HK
  isplitl [HpT]; · iexact HpT
  isplitl [HpF]; · iexact HpF
  isplitl [Hz]; · iexact Hz
  iexists _; iexact HO

/-- The first four transfers and the device's own tiles. -/
theorem seg2 (v2 v13 v24 : BitVec 32) {k : PUnit → Prog (TpuEff nD τ sig (Elt F) Λ₀ .tc) α} {Q : α → sProp 𝕄} :
    iprop(levAts L lv ∗ records Z K ∗ Ow c (owe c 10) ∗ (SndTok (F := F) c 0 ∗ SndTok (F := F) c 1 ∗ SndTok (F := F) c 2 ∗ SndTok (F := F) c 3)
        ∗ own (nxt c) M3.view Finset.univ fullShare (Any (F := F)) ∗ own (prv c) M4.view Finset.univ fullShare (Any (F := F))
        ∗ own c M0.view Finset.univ fullShare (RX Z c)
        ∗ own c M1.view Finset.univ fullShare (fun p y => y = Z.wf c p) ∗ own c M7.view Finset.univ fullShare (Any (F := F))
        ∗ semVal ((c : Thread nD τ), .dma wS) 0 ∗ own c M6.view Finset.univ fullShare (RW Z c 0) ∗ St2 Z c 0)
      ⊢ iprop((iprop((Sent (F := F) c 0 ∗ Sent (F := F) c 1 ∗ Sent (F := F) c 2 ∗ Sent (F := F) c 3)
            ∗ own c M1.view Finset.univ fullShare (fun p y => y = Z.wf c p) ∗ own c M7.view Finset.univ fullShare (Any (F := F))
            ∗ semVal ((c : Thread nD τ), .dma wS) 0 ∗ Run Z c 4 M0 Finset.univ fullShare.left c 4 6)
            -∗ wp frame (wpE defs 𝒱₀ (c : Thread nD τ) none) Set.univ (k ⟨⟩) Q)
          -∗ wp frame (wpE defs 𝒱₀ (c : Thread nD τ) none) Set.univ
            (pr k0_part2 c v13 v24 >>= fun _ => pr k0_part3 c v2 >>= fun _ => pr k0_part4 c v2 >>= fun v111 =>
              pr k0_part5 c v2 v111 >>= fun v139 => pr k0_part6 c v2 v24 v139 >>= k) Q) := by
  simp only [pr, k0_part2_eq_skeleton, k0_part3_eq_skeleton, k0_part4_eq_skeleton, k0_part5_eq_skeleton, k0_part6_eq_skeleton]
  unfold k0_part2_skel k0_part3_skel k0_part4_skel k0_part5_skel k0_part6_skel
  simp only [Prog.lift, Prog.bind_op, Prog.bind_ret, Prog.pure_eq_ret, Prog.bind_assoc, wS_eq]
  iintro ⟨#Hlev, #HR, HO, ⟨Ht0, Ht1, Ht2, Ht3⟩, H3, H4, HX, H1, H7, Hv, H6, HS⟩ HK
  ihave HX := (own_share c M0.view (PosShare.mem_left_op_right fullShare)) $$ HX
  icases HX with ⟨HX, HX'⟩
  ihave HX' := (own_share c M0.view (PosShare.mem_left_op_right fullShare.right)) $$ HX'
  icases HX' with ⟨Ha, Hb⟩
  ihave Ha := (own_split c M0.view (B := rset 0 512) (C := rset 512 512) (by rw [← rset_univ]; exact rset_split 0 512 512) (rset_disj 0 512 512)) $$ Ha
  icases Ha with ⟨Ha, Ha'⟩
  ihave Hb := (own_split c M0.view (B := rset 0 512) (C := rset 512 512) (by rw [← rset_univ]; exact rset_split 0 512 512) (rset_disj 0 512 512)) $$ Hb
  icases Hb with ⟨Hb, Hb'⟩
  ihave H3 := (own_split (nxt c) M3.view (B := rset 0 512) (C := rset 512 512) (by rw [← rset_univ]; exact rset_split 0 512 512) (rset_disj 0 512 512)) $$ H3
  icases H3 with ⟨H3, H3'⟩
  ihave H4 := (own_split (prv c) M4.view (B := rset 0 512) (C := rset 512 512) (by rw [← rset_univ]; exact rset_split 0 512 512) (rset_disj 0 512 512)) $$ H4
  icases H4 with ⟨H4, H4'⟩
  iapply (send_rows Z c defs K 0 9 rfl rfl rfl rfl rfl (dev3_eq c) rfl rfl rfl snd_0 rcv_0) $$ [HO Ht0 Ha H3]
  · isplitr; · iexact HR
    isplitl [Ht0]; · iexact Ht0
    isplitl [Ha]; · iexact Ha
    isplitl [H3]; · iexact H3
    iexact HO
  iintro ⟨Hs0, HO⟩
  iapply (send_rows Z c defs K 1 8 rfl rfl rfl rfl rfl (dev4_eq c) rfl rfl rfl snd_1 rcv_1) $$ [HO Ht1 Hb H4]
  · isplitr; · iexact HR
    isplitl [Ht1]; · iexact Ht1
    isplitl [Hb]; · iexact Hb
    isplitl [H4]; · iexact H4
    iexact HO
  iintro ⟨Hs1, HO⟩
  iapply (send_rows Z c defs K 2 7 rfl rfl rfl rfl rfl (dev5_eq c) rfl rfl rfl snd_2 rcv_2) $$ [HO Ht2 Ha' H3']
  · isplitr; · iexact HR
    isplitl [Ht2]; · iexact Ht2
    isplitl [Ha']; · iexact Ha'
    isplitl [H3']; · iexact H3'
    iexact HO
  iintro ⟨Hs2, HO⟩
  iapply (send_rows Z c defs K 3 6 rfl rfl rfl rfl rfl (dev6_eq c) rfl rfl rfl snd_3 rcv_3) $$ [HO Ht3 Hb' H4']
  · isplitr; · iexact HR
    isplitl [Ht3]; · iexact Ht3
    isplitl [Hb']; · iexact Hb'
    isplitl [H4']; · iexact H4'
    iexact HO
  iintro ⟨Hs3, HO⟩
  ihave HS := (Entails.of_eq (St2_zero Z c)) $$ HS
  iapply (w_step Z c defs 0 6 (by decide) rfl rfl) $$ [H1 H7 Hv H6 HO]
  · isplitr; · iexact Hlev
    isplitl [H1]; · iexact H1
    isplitl [H7]; · iexact H7
    isplitl [Hv]; · iexact Hv
    isplitl [H6]; · iexact H6
    iexact HO
  iintro ⟨H1, H7, Hv, H6, HO⟩
  iapply (tile_core Z c defs 1024 0 0 0 0 1 c (by decide) rfl rfl rfl rfl rfl (by decide) (by decide) rfl rfl squeezes_S1x1024x512_S1024x512 Z.f1024 (Finset.subset_univ _)
    (by revert c; decide) rfl) $$ [HS HX H6]
  · isplitl [HS]; · iexact HS
    isplitl [HX]; · iexact HX
    iexact H6
  iintro ⟨HS, HX, H6⟩
  ihave HS := (Entails.of_eq (St2_one Z c)) $$ HS
  iapply (w_step Z c defs 1 6 (by decide) rfl rfl) $$ [H1 H7 Hv H6 HO]
  · isplitr; · iexact Hlev
    isplitl [H1]; · iexact H1
    isplitl [H7]; · iexact H7
    isplitl [Hv]; · iexact Hv
    isplitl [H6]; · iexact H6
    iexact HO
  iintro ⟨H1, H7, Hv, H6, HO⟩
  iapply (tile_core Z c defs 1024 1 1 0 1 2 c (by decide) rfl rfl rfl rfl rfl (by decide) (by decide) rfl rfl squeezes_S1x1024x512_S1024x512 Z.f1024 (Finset.subset_univ _)
    (by revert c; decide) rfl) $$ [HS HX H6]
  · isplitl [HS]; · iexact HS
    isplitl [HX]; · iexact HX
    iexact H6
  iintro ⟨HS, HX, H6⟩
  iapply (w_step Z c defs 2 6 (by decide) rfl rfl) $$ [H1 H7 Hv H6 HO]
  · isplitr; · iexact Hlev
    isplitl [H1]; · iexact H1
    isplitl [H7]; · iexact H7
    isplitl [Hv]; · iexact Hv
    isplitl [H6]; · iexact H6
    iexact HO
  iintro ⟨H1, H7, Hv, H6, HO⟩
  iapply (tile_step Z c defs 0 1024 0 0 2 1024 3 6 c ⟨by decide, rfl, rfl, rfl, rfl, rfl, by decide⟩ (by decide) rfl (by decide) rfl squeezes_S1x1024x512_S1024x512 Z.f1024
    (Finset.subset_univ _) rfl (by revert c; decide) rfl) $$ [HS HX H6 HO]
  · unfold Run
    isplitr; · iexact Hlev
    isplitl [HS]; · iexact HS
    isplitl [HX]; · iexact HX
    isplitl [H6]; · iexact H6
    iexact HO
  iintro HRun
  unfold Run
  icases HRun with ⟨-, HS, HX, H6, HO⟩
  iapply (w_step Z c defs 3 6 (by decide) rfl rfl) $$ [H1 H7 Hv H6 HO]
  · isplitr; · iexact Hlev
    isplitl [H1]; · iexact H1
    isplitl [H7]; · iexact H7
    isplitl [Hv]; · iexact Hv
    isplitl [H6]; · iexact H6
    iexact HO
  iintro ⟨H1, H7, Hv, H6, HO⟩
  iapply (tile_step Z c defs 1 1024 1 0 3 1536 4 6 c ⟨by decide, rfl, rfl, rfl, rfl, rfl, by decide⟩ (by decide) rfl (by decide) rfl squeezes_S1x1024x512_S1024x512 Z.f1024
    (Finset.subset_univ _) rfl (by revert c; decide) rfl) $$ [HS HX H6 HO]
  · unfold Run
    isplitr; · iexact Hlev
    isplitl [HS]; · iexact HS
    isplitl [HX]; · iexact HX
    isplitl [H6]; · iexact H6
    iexact HO
  iintro HRun
  iapply HK
  isplitl [Hs0 Hs1 Hs2 Hs3]
  · isplitl [Hs0]; · iexact Hs0
    isplitl [Hs1]; · iexact Hs1
    isplitl [Hs2]; · iexact Hs2
    iexact Hs3
  isplitl [H1]; · iexact H1
  isplitl [H7]; · iexact H7
  isplitl [Hv]; · iexact Hv
  unfold Run; iexact HRun
end
end Cert.KProof
-- ==== Proof.Left.lean ====
/-
# The left neighbour's upper rows

They are waited for, passed on in three transfers, and multiplied in four tiles.
-/
module

public import proofs.«01_k».proof.Proof.Step

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F) (K : Dev nD × Fin 21 → ℕ) (c : Dev nD) (defs : Defs nD τ sig (Elt F) Λ₀) {α : Type}

/-- The left neighbour's upper rows: passed on, and multiplied. -/
theorem seg3 (v13 v24 : BitVec 32) {k : PUnit → Prog (TpuEff nD τ sig (Elt F) Λ₀ .tc) α} {Q : α → sProp 𝕄} :
    iprop(Run Z c 4 M0 Finset.univ fullShare.left c 4 6 ∗ records Z K ∗ RcvTok (F := F) c 0 ∗ (SndTok (F := F) c 4 ∗ SndTok (F := F) c 5 ∗ SndTok (F := F) c 6)
        ∗ own (nxt c) M5.view (rset 0 512) fullShare (Any (F := F)))
      ⊢ iprop((iprop(Run Z c 8 M3 (rset 0 512) fullShare.left (prv c) 4 3 ∗ own c M0.view Finset.univ fullShare.left (RX Z c) ∗ semVal (rcvCell c 0) 0
            ∗ Sent (F := F) c 4 ∗ Sent (F := F) c 5 ∗ Sent (F := F) c 6)
            -∗ wp frame (wpE defs 𝒱₀ (c : Thread nD τ) none) Set.univ (k ⟨⟩) Q)
          -∗ wp frame (wpE defs 𝒱₀ (c : Thread nD τ) none) Set.univ
            (pr k0_part7 c v24 >>= fun _ => pr k0_part8 c v13 >>= fun v225 => pr k0_part9 c v13 v225 >>= fun _ => pr k0_part10 c v13 >>= k) Q) := by
  simp only [pr, k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret, Prog.bind_assoc]
  iintro ⟨HRun, #HR, Hr0, ⟨Ht4, Ht5, Ht6⟩, H5⟩ HK
  iapply (recv_run Z c defs K 0 6 (by decide) (by decide) M3 0 512 (prv c) rfl rfl rfl rfl rcv_0 rfl) $$ [HRun Hr0]
  · isplitl [HRun]; · iexact HRun
    isplitr; · iexact HR
    iexact Hr0
  iintro ⟨HX, Hv0, HRun⟩
  ihave HRun := (run_share Z c) $$ HRun
  icases HRun with ⟨H3, HRun⟩
  ihave H3 := (rows_split c M3 0 256 256 rfl rfl) $$ H3
  icases H3 with ⟨H3a, H3⟩
  ihave H3 := (rows_split c M3 256 192 64 rfl rfl) $$ H3
  icases H3 with ⟨H3b, H3c⟩
  ihave H5 := (rows_split (nxt c) M5 0 256 256 rfl rfl) $$ H5
  icases H5 with ⟨H5a, H5⟩
  ihave H5 := (rows_split (nxt c) M5 256 192 64 rfl rfl) $$ H5
  icases H5 with ⟨H5b, H5c⟩
  iapply (send_run Z c defs K 4 5 rfl rfl rfl rfl rfl (dev7_eq c) rfl rfl rfl snd_4 rcv_4) $$ [HRun Ht4 H3a H5a]
  · isplitl [HRun]; · iexact HRun
    isplitr; · iexact HR
    isplitl [Ht4]; · iexact Ht4
    isplitl [H3a]; · iexact H3a
    iexact H5a
  iintro ⟨Hs4, HRun⟩
  iapply (send_run Z c defs K 5 4 rfl rfl rfl rfl rfl (dev8_eq c) rfl rfl rfl snd_5 rcv_5) $$ [HRun Ht5 H3b H5b]
  · isplitl [HRun]; · iexact HRun
    isplitr; · iexact HR
    isplitl [Ht5]; · iexact Ht5
    isplitl [H3b]; · iexact H3b
    iexact H5b
  iintro ⟨Hs5, HRun⟩
  iapply (send_run Z c defs K 6 3 rfl rfl rfl rfl rfl (dev9_eq c) rfl rfl rfl snd_6 rcv_6) $$ [HRun Ht6 H3c H5c]
  · isplitl [HRun]; · iexact HRun
    isplitr; · iexact HR
    isplitl [Ht6]; · iexact Ht6
    isplitl [H3c]; · iexact H3c
    iexact H5c
  iintro ⟨Hs6, HRun⟩
  iapply (tile_step Z c defs 2 512 0 0 0 0 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 3 512 1 0 1 512 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 4 512 0 0 2 1024 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 5 512 1 0 3 1536 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply HK
  isplitl [HRun]; · iexact HRun
  isplitl [HX]; · iexact HX
  isplitl [Hv0]; · iexact Hv0
  isplitl [Hs4]; · iexact Hs4
  isplitl [Hs5]; · iexact Hs5
  iexact Hs6
end
end Cert.KProof
-- ==== Proof.Mid.lean ====
/-
# The neighbours' half blocks

The right neighbour's upper rows, and both neighbours' lower rows, of which the right one's are passed on.
-/
module

public import proofs.«01_k».proof.Proof.Step

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F) (K : Dev nD × Fin 21 → ℕ) (c : Dev nD) (defs : Defs nD τ sig (Elt F) Λ₀) {α : Type}

/-- The right neighbour's upper rows, and the first tile of the left one's lower rows. -/
theorem seg4 (v13 v24 : BitVec 32) {k : PUnit → Prog (TpuEff nD τ sig (Elt F) Λ₀ .tc) α} {Q : α → sProp 𝕄} :
    iprop(Run Z c 8 M3 (rset 0 512) fullShare.left (prv c) 4 3 ∗ records Z K ∗ RcvTok (F := F) c 1 ∗ RcvTok (F := F) c 2)
      ⊢ iprop((iprop(Run Z c 13 M3 (rset 512 512) fullShare (prv c) 4 3 ∗ own c M3.view (rset 0 512) fullShare.left (RX Z (prv c)) ∗ own c M4.view (rset 0 512) fullShare (RX Z (nxt c)) ∗ semVal (rcvCell c 1) 0 ∗ semVal (rcvCell c 2) 0)
            -∗ wp frame (wpE defs 𝒱₀ (c : Thread nD τ) none) Set.univ (k ⟨⟩) Q)
          -∗ wp frame (wpE defs 𝒱₀ (c : Thread nD τ) none) Set.univ
            (pr k0_part11 c v24 >>= fun _ => pr k0_part12 c v24 >>= fun v336 => pr k0_part13 c v24 v336 >>= fun _ => pr k0_part14 c v13 v24 >>= k) Q) := by
  simp only [pr, k0_part11_eq_skeleton, k0_part12_eq_skeleton, k0_part13_eq_skeleton, k0_part14_eq_skeleton]
  unfold k0_part11_skel k0_part12_skel k0_part13_skel k0_part14_skel
  simp only [Prog.lift, Prog.bind_op, Prog.bind_ret, Prog.pure_eq_ret, Prog.bind_assoc]
  iintro ⟨HRun, #HR, Hr1, Hr2⟩ HK
  iapply (recv_run Z c defs K 1 3 (by decide) (by decide) M4 0 512 (nxt c) rfl rfl rfl rfl rcv_1 rfl) $$ [HRun Hr1]
  · isplitl [HRun]; · iexact HRun
    isplitr; · iexact HR
    iexact Hr1
  iintro ⟨HX, Hv1, HRun⟩
  iapply (tile_step Z c defs 6 512 0 0 0 0 4 3 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 7 512 1 0 1 512 4 3 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 8 512 0 0 2 1024 4 3 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 9 512 1 0 3 1536 4 3 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (recv_run Z c defs K 2 3 (by decide) (by decide) M3 512 512 (prv c) rfl rfl rfl rfl rcv_2 rfl) $$ [HRun Hr2]
  · isplitl [HRun]; · iexact HRun
    isplitr; · iexact HR
    iexact Hr2
  iintro ⟨HY, Hv2, HRun⟩
  iapply (tile_step Z c defs 10 512 0 512 0 0 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply HK
  isplitl [HRun]; · iexact HRun
  isplitl [HX]; · iexact HX
  isplitl [HY]; · iexact HY
  isplitl [Hv1]; · iexact Hv1
  iexact Hv2

/-- The left neighbour's lower rows; the right one's are there, and their first part is passed on. -/
theorem seg5 (v13 : BitVec 32) {k : PUnit → Prog (TpuEff nD τ sig (Elt F) Λ₀ .tc) α} {Q : α → sProp 𝕄} :
    iprop(Run Z c 13 M3 (rset 512 512) fullShare (prv c) 4 3 ∗ records Z K ∗ RcvTok (F := F) c 3 ∗ SndTok (F := F) c 7 ∗ own (prv c) M5.view (rset 512 512) fullShare (Any (F := F)))
      ⊢ iprop((iprop(Run Z c 16 M4 (rset 512 512) fullShare.left (nxt c) 4 2 ∗ own c M3.view (rset 512 512) fullShare (RX Z (prv c)) ∗ semVal (rcvCell c 3) 0 ∗ Sent (F := F) c 7 ∗ own c M4.view (rset 768 192) fullShare.right (RX Z (nxt c)) ∗ own c M4.view (rset 960 64) fullShare.right (RX Z (nxt c)) ∗ own (prv c) M5.view (rset 768 192) fullShare (Any (F := F)) ∗ own (prv c) M5.view (rset 960 64) fullShare (Any (F := F)))
            -∗ wp frame (wpE defs 𝒱₀ (c : Thread nD τ) none) Set.univ (k ⟨⟩) Q)
          -∗ wp frame (wpE defs 𝒱₀ (c : Thread nD τ) none) Set.univ
            (pr k0_part15 c v13 >>= fun v421 => pr k0_part16 c v13 v421 >>= fun x => pr k0_part17 c v13 x.1 x.2 >>= k) Q) := by
  simp only [pr, k0_part15_eq_skeleton, k0_part16_eq_skeleton, k0_part17_eq_skeleton]
  unfold k0_part15_skel k0_part16_skel k0_part17_skel
  simp only [Prog.lift, Prog.bind_op, Prog.bind_ret, Prog.pure_eq_ret, Prog.bind_assoc]
  iintro ⟨HRun, #HR, Hr3, Ht7, H5⟩ HK
  iapply (tile_step Z c defs 11 512 1 512 1 512 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 12 512 0 512 2 1024 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 13 512 1 512 3 1536 4 3 (prv c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (recv_run Z c defs K 3 3 (by decide) (by decide) M4 512 512 (nxt c) rfl rfl rfl rfl rcv_3 rfl) $$ [HRun Hr3]
  · isplitl [HRun]; · iexact HRun
    isplitr; · iexact HR
    iexact Hr3
  iintro ⟨HX, Hv3, HRun⟩
  ihave HRun := (run_share Z c) $$ HRun
  icases HRun with ⟨H4, HRun⟩
  ihave H4 := (rows_split c M4 512 256 256 rfl rfl) $$ H4
  icases H4 with ⟨H4a, H4⟩
  ihave H4 := (rows_split c M4 768 192 64 rfl rfl) $$ H4
  icases H4 with ⟨H4b, H4c⟩
  ihave H5 := (rows_split (prv c) M5 512 256 256 rfl rfl) $$ H5
  icases H5 with ⟨H5a, H5⟩
  ihave H5 := (rows_split (prv c) M5 768 192 64 rfl rfl) $$ H5
  icases H5 with ⟨H5b, H5c⟩
  iapply (send_run Z c defs K 7 2 rfl rfl rfl rfl rfl (dev10_eq c) rfl rfl rfl snd_7 rcv_7) $$ [HRun Ht7 H4a H5a]
  · isplitl [HRun]; · iexact HRun
    isplitr; · iexact HR
    isplitl [Ht7]; · iexact Ht7
    isplitl [H4a]; · iexact H4a
    iexact H5a
  iintro ⟨Hs7, HRun⟩
  iapply HK
  isplitl [HRun]; · iexact HRun
  isplitl [HX]; · iexact HX
  isplitl [Hv3]; · iexact Hv3
  isplitl [Hs7]; · iexact Hs7
  isplitl [H4b]; · iexact H4b
  isplitl [H4c]; · iexact H4c
  isplitl [H5b]; · iexact H5b
  iexact H5c

/-- The rest is passed on; the right neighbour's lower rows, and three tiles of the opposite device's first rows. -/
theorem seg6 (v2 v13 v24 : BitVec 32) {k : BitVec 32 → PUnit → Prog (TpuEff nD τ sig (Elt F) Λ₀ .tc) α} {Q : α → sProp 𝕄} :
    iprop(Run Z c 16 M4 (rset 512 512) fullShare.left (nxt c) 4 2 ∗ records Z K ∗ (SndTok (F := F) c 8 ∗ SndTok (F := F) c 9) ∗ own c M4.view (rset 768 192) fullShare.right (RX Z (nxt c)) ∗ own c M4.view (rset 960 64) fullShare.right (RX Z (nxt c)) ∗ own (prv c) M5.view (rset 768 192) fullShare (Any (F := F)) ∗ own (prv c) M5.view (rset 960 64) fullShare (Any (F := F)) ∗ RcvTok (F := F) c 4)
      ⊢ iprop((∀ v : BitVec 32, iprop(Run Z c 23 M5 (rset 0 256) fullShare (opp c) 4 0 ∗ own c M4.view (rset 512 512) fullShare.left (RX Z (nxt c)) ∗ Sent (F := F) c 8 ∗ Sent (F := F) c 9 ∗ semVal (rcvCell c 4) 0)
            -∗ wp frame (wpE defs 𝒱₀ (c : Thread nD τ) none) Set.univ (k v ⟨⟩) Q)
          -∗ wp frame (wpE defs 𝒱₀ (c : Thread nD τ) none) Set.univ
            (pr k0_part18 c v13 v24 >>= fun _ => pr k0_part19 c v24 >>= fun v535 => pr k0_part20 c v24 v535 >>= fun a => pr k0_part21 c v2 v24 a >>= fun v582 => pr k0_part22 c v582 >>= fun _ => pr k0_part23 c v582 >>= k v582) Q) := by
  simp only [pr, k0_part18_eq_skeleton, k0_part19_eq_skeleton, k0_part20_eq_skeleton, k0_part21_eq_skeleton, k0_part22_eq_skeleton, k0_part23_eq_skeleton]
  unfold k0_part18_skel k0_part19_skel k0_part20_skel k0_part21_skel k0_part22_skel k0_part23_skel
  simp only [Prog.lift, Prog.bind_op, Prog.bind_ret, Prog.pure_eq_ret, Prog.bind_assoc]
  iintro ⟨HRun, #HR, ⟨Ht8, Ht9⟩, H4b, H4c, H5b, H5c, Hr4⟩ HK
  iapply (send_run Z c defs K 8 1 rfl rfl rfl rfl rfl (dev11_eq c) rfl rfl rfl snd_8 rcv_8) $$ [HRun Ht8 H4b H5b]
  · isplitl [HRun]; · iexact HRun
    isplitr; · iexact HR
    isplitl [Ht8]; · iexact Ht8
    isplitl [H4b]; · iexact H4b
    iexact H5b
  iintro ⟨Hs8, HRun⟩
  iapply (send_run Z c defs K 9 0 rfl rfl rfl rfl rfl (dev12_eq c) rfl rfl rfl snd_9 rcv_9) $$ [HRun Ht9 H4c H5c]
  · isplitl [HRun]; · iexact HRun
    isplitr; · iexact HR
    isplitl [Ht9]; · iexact Ht9
    isplitl [H4c]; · iexact H4c
    iexact H5c
  iintro ⟨Hs9, HRun⟩
  iapply (tile_step Z c defs 14 512 0 512 0 0 4 0 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 15 512 1 512 1 512 4 0 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 16 512 0 512 2 1024 4 0 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (tile_step Z c defs 17 512 1 512 3 1536 4 0 (nxt c) ⟨by decide, rfl, rfl, rfl, rfl, rfl, by decide⟩ (by decide) rfl (by decide) rfl squeezes_S1x512x512_S512x512 Z.f512
    (Finset.Subset.refl _) rfl (by revert c; decide) rfl) $$ HRun
  iintro HRun
  iapply (recv_run Z c defs K 4 0 (by decide) (by decide) M5 0 256 (opp c) rfl rfl rfl (prv_prv c) rcv_4 rfl) $$ [HRun Hr4]
  · isplitl [HRun]; · iexact HRun
    isplitr; · iexact HR
    iexact Hr4
  iintro ⟨HX, Hv4, HRun⟩
  iapply (tile_step Z c defs 18 256 0 0 0 0 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (tile_step Z c defs 19 256 1 0 1 512 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (tile_step Z c defs 20 256 0 0 2 1024 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply HK
  isplitl [HRun]; · iexact HRun
  isplitl [HX]; · iexact HX
  isplitl [Hs8]; · iexact Hs8
  isplitl [Hs9]; · iexact Hs9
  iexact Hv4
end
end Cert.KProof
-- ==== Proof.Far.lean ====
/-
# The opposite device's rows

They arrive in six parts from the two neighbours, and are multiplied part by part.
-/
module

public import proofs.«01_k».proof.Proof.Step

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (Z : Spec F) (K : Dev nD × Fin 21 → ℕ) (c : Dev nD) (defs : Defs nD τ sig (Elt F) Λ₀) {α : Type}

/-- The first part from each side. -/
theorem seg7 (v2 v13 v24 v582 : BitVec 32) {k : PUnit → Prog (TpuEff nD τ sig (Elt F) Λ₀ .tc) α} {Q : α → sProp 𝕄} :
    iprop(Run Z c 23 M5 (rset 0 256) fullShare (opp c) 4 0 ∗ records Z K ∗ RcvTok (F := F) c 7)
      ⊢ iprop((iprop(Run Z c 28 M5 (rset 512 256) fullShare (opp c) 4 0 ∗ own c M5.view (rset 0 256) fullShare (RX Z (opp c)) ∗ semVal (rcvCell c 7) 0)
            -∗ wp frame (wpE defs 𝒱₀ (c : Thread nD τ) none) Set.univ (k ⟨⟩) Q)
          -∗ wp frame (wpE defs 𝒱₀ (c : Thread nD τ) none) Set.univ
            (pr k0_part24 c v13 v582 >>= fun _ => pr k0_part25 c v582 >>= fun x => pr k0_part26 c v582 x.1 x.2.1 x.2.2 >>= fun _ => pr k0_part27 c v24 v582 >>= k) Q) := by
  simp only [pr, k0_part24_eq_skeleton, k0_part25_eq_skeleton, k0_part26_eq_skeleton, k0_part27_eq_skeleton]
  unfold k0_part24_skel k0_part25_skel k0_part26_skel k0_part27_skel
  simp only [Prog.lift, Prog.bind_op, Prog.bind_ret, Prog.pure_eq_ret, Prog.bind_assoc]
  iintro ⟨HRun, #HR, Hr7⟩ HK
  iapply (tile_step Z c defs 21 256 1 0 3 1536 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (recv_run Z c defs K 7 0 (by decide) (by decide) M5 512 256 (opp c) rfl rfl rfl (nxt_nxt c) rcv_7 rfl) $$ [HRun Hr7]
  · isplitl [HRun]; · iexact HRun
    isplitr; · iexact HR
    iexact Hr7
  iintro ⟨HX, Hv7, HRun⟩
  iapply (tile_step Z c defs 22 256 0 512 0 0 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (tile_step Z c defs 23 256 1 512 1 512 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (tile_step Z c defs 24 256 0 512 2 1024 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply (tile_step Z c defs 25 256 1 512 3 1536 4 0 (opp c) ⟨by decide, rfl, rfl, rfl, rfl, rfl, by decide⟩ (by decide) rfl (by decide) rfl squeezes_S1x256x512_S256x512 Z.f256
    (Finset.Subset.refl _) rfl (by revert c; decide) rfl) $$ HRun
  iintro HRun
  iapply HK
  isplitl [HRun]; · iexact HRun
  isplitl [HX]; · iexact HX
  iexact Hv7

/-- The second part from each side, and two tiles of the third. -/
theorem seg8 (v13 v24 v582 : BitVec 32) {k : PUnit → Prog (TpuEff nD τ sig (Elt F) Λ₀ .tc) α} {Q : α → sProp 𝕄} :
    iprop(Run Z c 28 M5 (rset 512 256) fullShare (opp c) 4 0 ∗ records Z K ∗ RcvTok (F := F) c 5 ∗ RcvTok (F := F) c 8 ∗ RcvTok (F := F) c 6)
      ⊢ iprop((iprop(Run Z c 38 M5 (rset 448 64) fullShare (opp c) 4 0 ∗ (own c M5.view (rset 512 256) fullShare (RX Z (opp c)) ∗ own c M5.view (rset 256 192) fullShare (RX Z (opp c)) ∗ own c M5.view (rset 768 192) fullShare (RX Z (opp c))) ∗ semVal (rcvCell c 5) 0 ∗ semVal (rcvCell c 8) 0 ∗ semVal (rcvCell c 6) 0)
            -∗ wp frame (wpE defs 𝒱₀ (c : Thread nD τ) none) Set.univ (k ⟨⟩) Q)
          -∗ wp frame (wpE defs 𝒱₀ (c : Thread nD τ) none) Set.univ
            (pr k0_part28 c v582 >>= fun _ => pr k0_part29 c v582 >>= fun v821 => pr k0_part30 c v582 v821 >>= fun _ => pr k0_part31 c v13 v582 >>= fun _ => pr k0_part32 c v582 >>= fun _ => pr k0_part33 c v582 >>= fun v935 =>
              pr k0_part34 c v24 v582 v935 >>= fun _ => pr k0_part35 c v582 >>= k) Q) := by
  simp only [pr, k0_part28_eq_skeleton, k0_part29_eq_skeleton, k0_part30_eq_skeleton, k0_part31_eq_skeleton, k0_part32_eq_skeleton, k0_part33_eq_skeleton, k0_part34_eq_skeleton, k0_part35_eq_skeleton]
  unfold k0_part28_skel k0_part29_skel k0_part30_skel k0_part31_skel k0_part32_skel k0_part33_skel k0_part34_skel k0_part35_skel
  simp only [Prog.lift, Prog.bind_op, Prog.bind_ret, Prog.pure_eq_ret, Prog.bind_assoc]
  iintro ⟨HRun, #HR, Hr5, Hr8, Hr6⟩ HK
  iapply (recv_run Z c defs K 5 0 (by decide) (by decide) M5 256 192 (opp c) rfl rfl rfl (prv_prv c) rcv_5 rfl) $$ [HRun Hr5]
  · isplitl [HRun]; · iexact HRun
    isplitr; · iexact HR
    iexact Hr5
  iintro ⟨HX, Hv5, HRun⟩
  iapply (tile_step Z c defs 26 192 0 256 0 0 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 27 192 1 256 1 512 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 28 192 0 256 2 1024 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 29 192 1 256 3 1536 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (recv_run Z c defs K 8 0 (by decide) (by decide) M5 768 192 (opp c) rfl rfl rfl (nxt_nxt c) rcv_8 rfl) $$ [HRun Hr8]
  · isplitl [HRun]; · iexact HRun
    isplitr; · iexact HR
    iexact Hr8
  iintro ⟨HY, Hv8, HRun⟩
  iapply (tile_step Z c defs 30 192 0 768 0 0 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 31 192 1 768 1 512 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 32 192 0 768 2 1024 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (tile_step Z c defs 33 192 1 768 3 1536 4 0 (opp c) ⟨by decide, rfl, rfl, rfl, rfl, rfl, by decide⟩ (by decide) rfl (by decide) rfl squeezes_S1x192x512_S192x512 Z.f192
    (Finset.Subset.refl _) rfl (by revert c; decide) rfl) $$ HRun
  iintro HRun
  iapply (recv_run Z c defs K 6 0 (by decide) (by decide) M5 448 64 (opp c) rfl rfl rfl (prv_prv c) rcv_6 rfl) $$ [HRun Hr6]
  · isplitl [HRun]; · iexact HRun
    isplitr; · iexact HR
    iexact Hr6
  iintro ⟨HZ, Hv6, HRun⟩
  iapply (tile_step Z c defs 34 64 0 448 0 0 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (tile_step Z c defs 35 64 1 448 1 512 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply HK
  isplitl [HRun]; · iexact HRun
  isplitl [HX HY HZ]
  · isplitl [HX]; · iexact HX
    isplitl [HY]; · iexact HY
    iexact HZ
  isplitl [Hv5]; · iexact Hv5
  isplitl [Hv8]; · iexact Hv8
  iexact Hv6
end
end Cert.KProof
-- ==== Proof.Last.lean ====
/-
# The last tiles and the last waits

The rest of the opposite device's rows, then the ends of the ten transfers and of the last two stores.
-/
module

public import proofs.«01_k».proof.Proof.Step

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One for each transfer. -/
def all10 (f : Fin 10 → sProp 𝕄) : sProp 𝕄 := iprop(f 0 ∗ f 1 ∗ f 2 ∗ f 3 ∗ f 4 ∗ f 5 ∗ f 6 ∗ f 7 ∗ f 8 ∗ f 9)

section
variable (Z : Spec F) (K : Dev nD × Fin 21 → ℕ) (c : Dev nD) (defs : Defs nD τ sig (Elt F) Λ₀) {α : Type}

theorem pd_pend (n : ℕ) : Pd Z c (n + 2) ⊢ Pend Z c n := BIBase.Entails.refl

/-- A transfer's end is waited for. -/
theorem end_run (j : Fin 10) {st : DmaSem sig} (hst : st = sndS j)
    {t J : ℕ} {M : Memref sig .tc .vmem S1024x4096 .bf16} {A : Finset Xi} {q' : PosShare TreeShare} {d' : Dev nD}
    {sp sp' : Space} {s₁ s₂ : Shape} {e₁ e₂ : EltTy}
    {srcw : Memref sig .tc sp' s₂ e₂} {dstw : Memref sig .tc sp s₁ e₁} {hsrc : srcw.view.WordExact} {hdst : dstw.view.WordExact}
    (hN : dstw.view.dmaCredit = legN j) {k : PUnit → Prog (TpuEff nD τ sig (Elt F) Λ₀ .tc) α} {Q : α → sProp 𝕄} :
    iprop(Run Z c t M A q' d' J 0 ∗ records Z K ∗ atPos ER (sndCell c j) 0 ∅ 0 ∗ Sent c j)
      ⊢ iprop((iprop(iprop(sndPay Z c j ∗ semVal (sndCell c j) 0) ∗ Run Z c t M A q' d' J 0)
          -∗ wp frame (wpE defs 𝒱₀ (c : Thread nD τ) none) Set.univ (k ⟨⟩) Q)
        -∗ wp frame (wpE defs 𝒱₀ (c : Thread nD τ) none) Set.univ (.op (.waitDma2 st srcw dstw hsrc hdst) k) Q) := by
  subst hst
  unfold Run
  iintro ⟨⟨#Hlev, HS, HX, HW, HO⟩, HR, Hat, Hs⟩ HK
  iapply (send_wait Z K c defs j hN) $$ [HR Hat Hs HO]
  · isplitr; · iexact Hlev
    isplitl [HR]; · iexact HR
    isplitl [Hat]; · iexact Hat
    isplitl [Hs]; · iexact Hs
    iexact HO
  iintro ⟨HY, Hv, HO⟩
  iapply HK
  isplitl [HY Hv]
  · isplitl [HY]; · iexact HY
    iexact Hv
  isplitr; · iexact Hlev
  isplitl [HS]; · iexact HS
  isplitl [HX]; · iexact HX
  isplitl [HW]; · iexact HW
  iexact HO

/-- The third part's rest, and all that is still to be waited for. -/
theorem seg9 (v13 v582 : BitVec 32) {k : PUnit → Prog (TpuEff nD τ sig (Elt F) Λ₀ .tc) α} {Q : α → sProp 𝕄} :
    iprop(Run Z c 38 M5 (rset 448 64) fullShare (opp c) 4 0 ∗ records Z K ∗ RcvTok (F := F) c 9 ∗ all10 (F := F) (fun j => iprop(atPos ER (sndCell c j) 0 ∅ 0 ∗ Sent (F := F) c j)))
      ⊢ iprop((iprop(all10 (F := F) (fun j => iprop(sndPay Z c j ∗ semVal (sndCell c j) 0)) ∗ (own c M5.view (rset 448 64) fullShare (RX Z (opp c)) ∗ own c M5.view (rset 960 64) fullShare (RX Z (opp c))) ∗ semVal (rcvCell c 9) 0
            ∗ own c M2.view Finset.univ fullShare (Z.RO c) ∗ Slot (F := F) c 0 ∗ Slot (F := F) c 1 ∗ own c M6.view Finset.univ fullShare (RW Z c 4) ∗ Ow c (owe c 0))
            -∗ wp frame (wpE defs 𝒱₀ (c : Thread nD τ) none) Set.univ (k ⟨⟩) Q)
          -∗ wp frame (wpE defs 𝒱₀ (c : Thread nD τ) none) Set.univ
            (pr k0_part36 c v582 >>= fun x => pr k0_part37 c v13 v582 x.1 x.2 >>= fun y => pr k0_part38 c v582 y.1 y.2.1 y.2.2 >>= fun _ => pr k0_part39 c v582 >>= fun _ =>
              pr k0_part40 c v582 >>= fun _ => pr k0_part41 >>= fun _ => pr k0_part42 c >>= k) Q) := by
  simp only [pr, k0_part36_eq_skeleton, k0_part37_eq_skeleton, k0_part38_eq_skeleton, k0_part39_eq_skeleton, k0_part40_eq_skeleton, k0_part41_eq_skeleton, k0_part42_eq_skeleton]
  unfold k0_part36_skel k0_part37_skel k0_part38_skel k0_part39_skel k0_part40_skel k0_part41_skel k0_part42_skel
  simp only [Prog.lift, Prog.bind_op, Prog.bind_ret, Prog.pure_eq_ret, Prog.bind_assoc]
  iintro ⟨HRun, #HR, Hr9, Hs⟩ HK
  iapply (tile_step Z c defs 36 64 0 448 2 1024 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (tile_step Z c defs 37 64 1 448 3 1536 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (recv_run Z c defs K 9 0 (by decide) (by decide) M5 960 64 (opp c) rfl rfl rfl (nxt_nxt c) rcv_9 rfl) $$ [HRun Hr9]
  · isplitl [HRun]; · iexact HRun
    isplitr; · iexact HR
    iexact Hr9
  iintro ⟨HX, Hv9, HRun⟩
  iapply (tile_step Z c defs 38 64 0 960 0 0 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (tile_step Z c defs 39 64 1 960 1 512 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (tile_step Z c defs 40 64 0 960 2 1024 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  iapply (tile_step Z c defs 41 64 1 960 3 1536 4 0 (opp c) ⟨by decide, rfl, rfl, rfl, rfl, rfl, by decide⟩ (by decide) rfl (by decide) rfl squeezes_S1x64x512_S64x512 Z.f64
    (Finset.Subset.refl _) rfl (by revert c; decide) rfl) $$ HRun
  iintro HRun
  unfold all10
  icases Hs with ⟨H0, Hs⟩
  icases H0 with ⟨Ha, Hc⟩
  iapply (end_run Z K c defs 0 snd_0 rfl) $$ [HRun Ha Hc]
  · isplitl [HRun]; · iexact HRun
    isplitr; · iexact HR
    isplitl [Ha]; · iexact Ha
    iexact Hc
  iintro ⟨He0, HRun⟩
  icases Hs with ⟨H1, Hs⟩
  icases H1 with ⟨Ha, Hc⟩
  iapply (end_run Z K c defs 1 snd_1 rfl) $$ [HRun Ha Hc]
  · isplitl [HRun]; · iexact HRun
    isplitr; · iexact HR
    isplitl [Ha]; · iexact Ha
    iexact Hc
  iintro ⟨He1, HRun⟩
  icases Hs with ⟨H2, Hs⟩
  icases H2 with ⟨Ha, Hc⟩
  iapply (end_run Z K c defs 2 snd_2 rfl) $$ [HRun Ha Hc]
  · isplitl [HRun]; · iexact HRun
    isplitr; · iexact HR
    isplitl [Ha]; · iexact Ha
    iexact Hc
  iintro ⟨He2, HRun⟩
  icases Hs with ⟨H3, Hs⟩
  icases H3 with ⟨Ha, Hc⟩
  iapply (end_run Z K c defs 3 snd_3 rfl) $$ [HRun Ha Hc]
  · isplitl [HRun]; · iexact HRun
    isplitr; · iexact HR
    isplitl [Ha]; · iexact Ha
    iexact Hc
  iintro ⟨He3, HRun⟩
  icases Hs with ⟨H4, Hs⟩
  icases H4 with ⟨Ha, Hc⟩
  iapply (end_run Z K c defs 4 snd_4 rfl) $$ [HRun Ha Hc]
  · isplitl [HRun]; · iexact HRun
    isplitr; · iexact HR
    isplitl [Ha]; · iexact Ha
    iexact Hc
  iintro ⟨He4, HRun⟩
  icases Hs with ⟨H5, Hs⟩
  icases H5 with ⟨Ha, Hc⟩
  iapply (end_run Z K c defs 5 snd_5 rfl) $$ [HRun Ha Hc]
  · isplitl [HRun]; · iexact HRun
    isplitr; · iexact HR
    isplitl [Ha]; · iexact Ha
    iexact Hc
  iintro ⟨He5, HRun⟩
  icases Hs with ⟨H6, Hs⟩
  icases H6 with ⟨Ha, Hc⟩
  iapply (end_run Z K c defs 6 snd_6 rfl) $$ [HRun Ha Hc]
  · isplitl [HRun]; · iexact HRun
    isplitr; · iexact HR
    isplitl [Ha]; · iexact Ha
    iexact Hc
  iintro ⟨He6, HRun⟩
  icases Hs with ⟨H7, Hs⟩
  icases H7 with ⟨Ha, Hc⟩
  iapply (end_run Z K c defs 7 snd_7 rfl) $$ [HRun Ha Hc]
  · isplitl [HRun]; · iexact HRun
    isplitr; · iexact HR
    isplitl [Ha]; · iexact Ha
    iexact Hc
  iintro ⟨He7, HRun⟩
  icases Hs with ⟨H8, Hs⟩
  icases H8 with ⟨Ha, Hc⟩
  iapply (end_run Z K c defs 8 snd_8 rfl) $$ [HRun Ha Hc]
  · isplitl [HRun]; · iexact HRun
    isplitr; · iexact HR
    isplitl [Ha]; · iexact Ha
    iexact Hc
  iintro ⟨He8, HRun⟩
  icases Hs with ⟨Ha, Hc⟩
  iapply (end_run Z K c defs 9 snd_9 rfl) $$ [HRun Ha Hc]
  · isplitl [HRun]; · iexact HRun
    isplitr; · iexact HR
    isplitl [Ha]; · iexact Ha
    iexact Hc
  iintro ⟨He9, HRun⟩
  unfold Run St2
  icases HRun with ⟨#Hlev, ⟨HD, HP, HP', HT⟩, HY, HW, HO⟩
  iapply (pend_wait Z c defs 42 rfl 0 (by decide) rfl) $$ [HD HP HO]
  · isplitr; · iexact Hlev
    isplitl [HD]; · iexact HD
    isplitl [HP]; · iapply (pd_pend Z c 42) $$ HP
    iexact HO
  iintro ⟨HD, Hs0, HO⟩
  iapply (pend_wait Z c defs 43 rfl 0 (by decide) rfl) $$ [HD HP' HO]
  · isplitr; · iexact Hlev
    isplitl [HD]; · iexact HD
    isplitl [HP']; · iapply (pd_pend Z c 43) $$ HP'
    iexact HO
  iintro ⟨HD, Hs1, HO⟩
  unfold Done
  rw [dset_last]
  iapply HK
  isplitl [He0 He1 He2 He3 He4 He5 He6 He7 He8 He9]
  · isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    isplitl [He8]; · iexact He8
    iexact He9
  isplitl [HX HY]
  · isplitl [HX]; · iexact HX
    iexact HY
  isplitl [Hv9]; · iexact Hv9
  isplitl [HD]; · iexact HD
  isplitl [Hs0]; · iexact Hs0
  isplitl [Hs1]; · iexact Hs1
  isplitl [HW]; · iexact HW
  iexact HO
end
end Cert.KProof
-- ==== Proof.Body.lean ====
/-
# The body

The segments one after another, from what a device is dealt to what it hands back.
-/
module

public import proofs.«01_k».proof.Proof.Gen.KernelIdeal.Frame
public import proofs.«01_k».proof.Proof.Head
public import proofs.«01_k».proof.Proof.Left
public import proofs.«01_k».proof.Proof.Mid
public import proofs.«01_k».proof.Proof.Far
public import proofs.«01_k».proof.Proof.Last

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The parts in order. -/
def chain : Prog (TpuEff nD τ sig (Elt F) Λ₀ .tc) PUnit :=
  pr k0_part1 >>= fun x => pr k0_part2 x.1 x.2.2.1 x.2.2.2 >>= fun _ => pr k0_part3 x.1 x.2.1 >>= fun _ => pr k0_part4 x.1 x.2.1 >>= fun v111 =>
  pr k0_part5 x.1 x.2.1 v111 >>= fun v139 => pr k0_part6 x.1 x.2.1 x.2.2.2 v139 >>= fun _ => pr k0_part7 x.1 x.2.2.2 >>= fun _ =>
  pr k0_part8 x.1 x.2.2.1 >>= fun v225 => pr k0_part9 x.1 x.2.2.1 v225 >>= fun _ => pr k0_part10 x.1 x.2.2.1 >>= fun _ =>
  pr k0_part11 x.1 x.2.2.2 >>= fun _ => pr k0_part12 x.1 x.2.2.2 >>= fun v336 => pr k0_part13 x.1 x.2.2.2 v336 >>= fun _ =>
  pr k0_part14 x.1 x.2.2.1 x.2.2.2 >>= fun _ => pr k0_part15 x.1 x.2.2.1 >>= fun v421 => pr k0_part16 x.1 x.2.2.1 v421 >>= fun y =>
  pr k0_part17 x.1 x.2.2.1 y.1 y.2 >>= fun _ => pr k0_part18 x.1 x.2.2.1 x.2.2.2 >>= fun _ => pr k0_part19 x.1 x.2.2.2 >>= fun v535 =>
  pr k0_part20 x.1 x.2.2.2 v535 >>= fun a => pr k0_part21 x.1 x.2.1 x.2.2.2 a >>= fun v => pr k0_part22 x.1 v >>= fun _ => pr k0_part23 x.1 v >>= fun _ =>
  pr k0_part24 x.1 x.2.2.1 v >>= fun _ => pr k0_part25 x.1 v >>= fun y => pr k0_part26 x.1 v y.1 y.2.1 y.2.2 >>= fun _ => pr k0_part27 x.1 x.2.2.2 v >>= fun _ =>
  pr k0_part28 x.1 v >>= fun _ => pr k0_part29 x.1 v >>= fun v821 => pr k0_part30 x.1 v v821 >>= fun _ => pr k0_part31 x.1 x.2.2.1 v >>= fun _ =>
  pr k0_part32 x.1 v >>= fun _ => pr k0_part33 x.1 v >>= fun v935 => pr k0_part34 x.1 x.2.2.2 v v935 >>= fun _ => pr k0_part35 x.1 v >>= fun _ =>
  pr k0_part36 x.1 v >>= fun y => pr k0_part37 x.1 x.2.2.1 v y.1 y.2 >>= fun y => pr k0_part38 x.1 v y.1 y.2.1 y.2.2 >>= fun _ => pr k0_part39 x.1 v >>= fun _ =>
  pr k0_part40 x.1 v >>= fun _ => pr k0_part41 >>= fun _ => pr k0_part42 x.1 >>= fun _ => pure ⟨⟩

set_option maxRecDepth 65536 in
theorem body_chain (t : Fin cfg0.N) : bodyAt0 t = chain (F := F) := by
  unfold bodyAt0; rw [cc0_body_eq_skeleton]; rfl

section
variable (Z : Spec F) (K : Dev nD × Fin 21 → ℕ) (c : Dev nD) (defs : Defs nD τ sig (Elt F) Λ₀)

/-- Before any tile. -/
theorem tiles_start : iprop(own c M2.view Finset.univ fullShare (Any (F := F)) ∗ own c M8.view Finset.univ fullShare (Any (F := F))
      ∗ semVal ((c : Thread nD τ), .dma (stS 0)) 0 ∗ semVal ((c : Thread nD τ), .dma (stS 1)) 0) ⊢ St2 Z c 0 := by
  iintro ⟨H2, H8, Hs0, Hs1⟩
  ihave H2 := (own_split c M2.view (B := ∅) (C := Finset.univ) (Finset.empty_union _).symm (Finset.disjoint_empty_left _)) $$ H2
  icases H2 with ⟨H2, H2'⟩
  ihave H2 := (own_mono c M2.view (R' := Z.RO c) (fun p hp => absurd hp (Finset.notMem_empty p))) $$ H2
  ihave H8 := (own_split c M8.view yset_univ yset_disj) $$ H8
  icases H8 with ⟨H8, H8'⟩
  unfold St2 Done Todo
  rw [dset_zero, fset_zero]
  isplitl [H2]; · iexact H2
  isplitl [H8 Hs0]
  · iapply (show Slot (F := F) c 0 ⊢ Pd Z c 0 from BIBase.Entails.refl)
    unfold Slot
    isplitl [H8]; · iexact H8
    iexact Hs0
  isplitl [H8' Hs1]
  · iapply (show Slot (F := F) c 1 ⊢ Pd Z c (0 + 1) from BIBase.Entails.refl)
    unfold Slot
    isplitl [H8']; · iexact H8'
    iexact Hs1
  iexact H2'

theorem snd_pay (j : Fin 10) (M : Memref sig .tc .vmem S1024x4096 .bf16) (a h : ℕ) (q : PosShare TreeShare) (d : Dev nD) (hM : srcM j = M) (ha : legA j = a)
    (hh : legH j = h) (hq : legQ j = q) (hd : legData c j = d) : sndPay Z c j ⊢ own c M.view (rset a h) q (RX Z d) := by
  subst hM ha hh hq hd; unfold sndPay; exact BIBase.Entails.refl

/-- Two halves of a share. -/
theorem halves {M : Memref sig .tc .vmem S1024x4096 .bf16} {A : Finset Xi} {q : PosShare TreeShare} {R : Xi → Elt F .bf16 → Prop} :
    iprop(own c M.view A q.left R ∗ own c M.view A q.right R) ⊢ own c M.view A q R :=
  own_unshare c M.view (PosShare.mem_left_op_right q)

/-- All the rows. -/
theorem rows_all {M : Memref sig .tc .vmem S1024x4096 .bf16} {q : PosShare TreeShare} {R : Xi → Elt F .bf16 → Prop} :
    iprop(own c M.view (rset 0 512) q R ∗ own c M.view (rset 512 512) q R) ⊢ own c M.view Finset.univ q R := by
  rw [← rset_univ]; exact rows_join c M 0 512 512 rfl rfl

/-- Half the rows, of the three parts they are passed on in. -/
theorem rows_half {M : Memref sig .tc .vmem S1024x4096 .bf16} {q : PosShare TreeShare} {R : Xi → Elt F .bf16 → Prop} (a b d : ℕ) (hb : a + 256 = b) (hd : b + 192 = d) :
    iprop(own c M.view (rset a 256) q R ∗ own c M.view (rset b 192) q R ∗ own c M.view (rset d 64) q R) ⊢ own c M.view (rset a 512) q R := by
  iintro ⟨H1, H2, H3⟩
  iapply (rows_join c M a 256 256 rfl hb)
  isplitl [H1]; · iexact H1
  iapply (rows_join c M b 192 64 rfl hd)
  isplitl [H2]; · iexact H2
  iexact H3

/-- The device's own block of `x`, its lent parts returned. -/
theorem back0 : iprop(own c M0.view Finset.univ fullShare.left (RX Z c) ∗ sndPay Z c 0 ∗ sndPay Z c 1 ∗ sndPay Z c 2 ∗ sndPay Z c 3)
    ⊢ own c M0.view Finset.univ fullShare (RX Z c) := by
  iintro ⟨H, H0, H1, H2, H3⟩
  ihave H0 := (snd_pay Z c 0 M0 0 512 fullShare.right.left c rfl rfl rfl rfl rfl) $$ H0
  ihave H1 := (snd_pay Z c 1 M0 0 512 fullShare.right.right c rfl rfl rfl rfl rfl) $$ H1
  ihave H2 := (snd_pay Z c 2 M0 512 512 fullShare.right.left c rfl rfl rfl rfl rfl) $$ H2
  ihave H3 := (snd_pay Z c 3 M0 512 512 fullShare.right.right c rfl rfl rfl rfl rfl) $$ H3
  iapply (halves c)
  isplitl [H]; · iexact H
  iapply (rows_all c)
  isplitl [H0 H1]
  · iapply (halves c)
    isplitl [H0]; · iexact H0
    iexact H1
  · iapply (halves c)
    isplitl [H2]; · iexact H2
    iexact H3

/-- The block of the device before, its lent parts returned. -/
theorem back3 : iprop(own c M3.view (rset 0 512) fullShare.left (RX Z (prv c)) ∗ own c M3.view (rset 512 512) fullShare (RX Z (prv c))
      ∗ sndPay Z c 4 ∗ sndPay Z c 5 ∗ sndPay Z c 6) ⊢ own c M3.view Finset.univ fullShare (RX Z (prv c)) := by
  iintro ⟨H, H', H0, H1, H2⟩
  ihave H0 := (snd_pay Z c 4 M3 0 256 fullShare.right (prv c) rfl rfl rfl rfl rfl) $$ H0
  ihave H1 := (snd_pay Z c 5 M3 256 192 fullShare.right (prv c) rfl rfl rfl rfl rfl) $$ H1
  ihave H2 := (snd_pay Z c 6 M3 448 64 fullShare.right (prv c) rfl rfl rfl rfl rfl) $$ H2
  iapply (rows_all c)
  isplitr [H']
  · iapply (halves c)
    isplitl [H]; · iexact H
    iapply (rows_half c 0 256 448 rfl rfl)
    isplitl [H0]; · iexact H0
    isplitl [H1]; · iexact H1
    iexact H2
  iexact H'

/-- The block of the device after, its lent parts returned. -/
theorem back4 : iprop(own c M4.view (rset 0 512) fullShare (RX Z (nxt c)) ∗ own c M4.view (rset 512 512) fullShare.left (RX Z (nxt c))
      ∗ sndPay Z c 7 ∗ sndPay Z c 8 ∗ sndPay Z c 9) ⊢ own c M4.view Finset.univ fullShare (RX Z (nxt c)) := by
  iintro ⟨H, H', H0, H1, H2⟩
  ihave H0 := (snd_pay Z c 7 M4 512 256 fullShare.right (nxt c) rfl rfl rfl rfl rfl) $$ H0
  ihave H1 := (snd_pay Z c 8 M4 768 192 fullShare.right (nxt c) rfl rfl rfl rfl rfl) $$ H1
  ihave H2 := (snd_pay Z c 9 M4 960 64 fullShare.right (nxt c) rfl rfl rfl rfl rfl) $$ H2
  iapply (rows_all c)
  isplitl [H]; · iexact H
  iapply (halves c)
  isplitl [H']; · iexact H'
  iapply (rows_half c 512 768 960 rfl rfl)
  isplitl [H0]; · iexact H0
  isplitl [H1]; · iexact H1
  iexact H2

/-- The two-away device's block, of its six parts. -/
theorem back5 {R : Xi → Elt F .bf16 → Prop} :
    iprop((own c M5.view (rset 0 256) fullShare R ∗ own c M5.view (rset 256 192) fullShare R ∗ own c M5.view (rset 448 64) fullShare R)
      ∗ (own c M5.view (rset 512 256) fullShare R ∗ own c M5.view (rset 768 192) fullShare R ∗ own c M5.view (rset 960 64) fullShare R))
    ⊢ own c M5.view Finset.univ fullShare R := by
  iintro ⟨H, H'⟩
  iapply (rows_all c)
  isplitl [H]
  · iapply (rows_half c 0 256 448 rfl rfl) $$ H
  · iapply (rows_half c 512 768 960 rfl rfl) $$ H'

/-- What a device is dealt at the launch: its tokens, its places, and the credits of what others owe it. -/
def Dealt : sProp 𝕄 :=
  iprop((dutyTok ER (barCell (prv c)) 0 true ∗ dutyTok ER (barCell (nxt c)) 0 false ∗ all10 (F := F) (SndTok (F := F) c))
    ∗ (atPos ER (barCell c) 0 ∅ 0 ∗ cred (tallyAt (barCell c) () 2)) ∗ all10 (F := F) (fun j => atPos ER (sndCell c j) 0 ∅ 0) ∗ all10 (F := F) (RcvTok (F := F) c))

/-- A device's buffers but the staged one, its result's contents in `R`. -/
def Bufs (R : S4096x2048.Idx → Elt F .bf16 → Prop) : sProp 𝕄 :=
  iprop(own c M1.view Finset.univ fullShare (fun p y => y = Z.wf c p) ∗ own c M2.view Finset.univ fullShare R
    ∗ own c M3.view Finset.univ fullShare (Any (F := F)) ∗ own c M4.view Finset.univ fullShare (Any (F := F)) ∗ own c M5.view Finset.univ fullShare (Any (F := F))
    ∗ own c M6.view Finset.univ fullShare (Any (F := F)) ∗ own c M7.view Finset.univ fullShare (Any (F := F)) ∗ own c M8.view Finset.univ fullShare (Any (F := F)))

/-- The semaphores of the local copies, at zero. -/
def Sems0 : sProp 𝕄 :=
  iprop(semVal ((c : Thread nD τ), .dma (stS 0)) 0 ∗ semVal ((c : Thread nD τ), .dma (stS 1)) 0 ∗ semVal ((c : Thread nD τ), .dma wS) 0)
/-- The handshake's and the transfers' semaphores, at zero. -/
def Cells0 : sProp 𝕄 :=
  iprop(semVal (barCell c) 0 ∗ all10 (F := F) (fun j => semVal (sndCell c j) 0) ∗ all10 (F := F) (fun j => semVal (rcvCell c j) 0))

/-- THE BODY: every row of the result is written, and everything borrowed is back. -/
theorem body_run :
    iprop(levAts L lv ∗ records Z K ∗ Dealt (F := F) c ∗ Bufs Z c Any ∗ Sems0 (F := F) c ∗ own c M0.view Finset.univ fullShare (RX Z c) ∗ Ow c (O₀ c))
      ⊢ wp frame (wpE defs 𝒱₀ (c : Thread nD τ) none) Set.univ (chain (F := F))
          (fun _ => iprop(Bufs Z c (Z.RO c) ∗ Sems0 (F := F) c ∗ Cells0 (F := F) c ∗ own c M0.view Finset.univ fullShare (RX Z c) ∗ Ow c 0)) := by
  unfold Dealt Bufs Sems0 Cells0 chain all10
  iintro ⟨#Hlev, #HR, ⟨⟨Hb1, Hb2, T0, T1, T2, T3, T4, T5, T6, T7, T8, T9⟩, ⟨Hat, Hc⟩, ⟨S0, S1, S2, S3, S4, S5, S6, S7, S8, S9⟩,
      C0, C1, C2, C3, C4, C5, C6, C7, C8, C9⟩,
    ⟨H1, H2, H3, H4, H5, H6, H7, H8⟩, ⟨V0, V1, VW⟩, H0, HO⟩
  ihave H5 := (own_split c M5.view (B := rset 0 512) (C := rset 512 512) (by rw [← rset_univ]; exact rset_split 0 512 512) (rset_disj 0 512 512)) $$ H5
  icases H5 with ⟨H5, H5'⟩
  iapply (seg1 Z K c defs) $$ [Hb1 Hb2 Hat Hc H3 H4 H5 H5' HO]
  · isplitr; · iexact Hlev
    isplitr; · iexact HR
    isplitl [HO]; · iexact HO
    isplitl [Hb1]; · iexact Hb1
    isplitl [Hb2]; · iexact Hb2
    unfold barPayT barPayF
    rw [nxt_prv, prv_nxt]
    isplitl [H3 H5]
    · isplitl [H3]; · iexact H3
      iexact H5
    isplitl [H4 H5']
    · isplitl [H4]; · iexact H4
      iexact H5'
    isplitl [Hat]; · iexact Hat
    iexact Hc
  iintro %v2 %v13 %v24 ⟨HT, HF, Hbar, HO⟩
  unfold barPayT barPayF
  icases HT with ⟨N3, N5⟩
  icases HF with ⟨P4, P5⟩
  dsimp only
  ihave HS := (tiles_start Z c) $$ [H2 H8 V0 V1]
  · isplitl [H2]; · iexact H2
    isplitl [H8]; · iexact H8
    isplitl [V0]; · iexact V0
    iexact V1
  ihave H6 := (own_mono c M6.view (R' := RW Z c 0) (fun p _ x _ h => absurd h (Nat.not_lt_zero _))) $$ H6
  iapply (seg2 Z K c defs v2 v13 v24) $$ [HO T0 T1 T2 T3 N3 P4 H0 H1 H7 VW H6 HS]
  · isplitr; · iexact Hlev
    isplitr; · iexact HR
    isplitl [HO]; · iexact HO
    isplitl [T0 T1 T2 T3]
    · isplitl [T0]; · iexact T0
      isplitl [T1]; · iexact T1
      isplitl [T2]; · iexact T2
      iexact T3
    isplitl [N3]; · iexact N3
    isplitl [P4]; · iexact P4
    isplitl [H0]; · iexact H0
    isplitl [H1]; · iexact H1
    isplitl [H7]; · iexact H7
    isplitl [VW]; · iexact VW
    isplitl [H6]; · iexact H6
    iexact HS
  iintro ⟨⟨D0, D1, D2, D3⟩, H1, H7, VW, HRun⟩
  iapply (seg3 Z K c defs v13 v24) $$ [HRun C0 T4 T5 T6 N5]
  · isplitl [HRun]; · iexact HRun
    isplitr; · iexact HR
    isplitl [C0]; · iexact C0
    isplitl [T4 T5 T6]
    · isplitl [T4]; · iexact T4
      isplitl [T5]; · iexact T5
      iexact T6
    iexact N5
  iintro ⟨HRun, H0, R0, D4, D5, D6⟩
  iapply (seg4 Z K c defs v13 v24) $$ [HRun C1 C2]
  · isplitl [HRun]; · iexact HRun
    isplitr; · iexact HR
    isplitl [C1]; · iexact C1
    iexact C2
  iintro ⟨HRun, H3, H4, R1, R2⟩
  iapply (seg5 Z K c defs v13) $$ [HRun C3 T7 P5]
  · isplitl [HRun]; · iexact HRun
    isplitr; · iexact HR
    isplitl [C3]; · iexact C3
    isplitl [T7]; · iexact T7
    iexact P5
  iintro ⟨HRun, H3', R3, D7, Q1, Q2, Q3, Q4⟩
  iapply (seg6 Z K c defs v2 v13 v24) $$ [HRun T8 T9 Q1 Q2 Q3 Q4 C4]
  · isplitl [HRun]; · iexact HRun
    isplitr; · iexact HR
    isplitl [T8 T9]
    · isplitl [T8]; · iexact T8
      iexact T9
    isplitl [Q1]; · iexact Q1
    isplitl [Q2]; · iexact Q2
    isplitl [Q3]; · iexact Q3
    isplitl [Q4]; · iexact Q4
    iexact C4
  iintro %v ⟨HRun, H4', D8, D9, R4⟩
  iapply (seg7 Z K c defs v2 v13 v24 v) $$ [HRun C7]
  · isplitl [HRun]; · iexact HRun
    isplitr; · iexact HR
    iexact C7
  iintro ⟨HRun, F0, R7⟩
  iapply (seg8 Z K c defs v13 v24 v) $$ [HRun C5 C8 C6]
  · isplitl [HRun]; · iexact HRun
    isplitr; · iexact HR
    isplitl [C5]; · iexact C5
    isplitl [C8]; · iexact C8
    iexact C6
  iintro ⟨HRun, ⟨F1, F2, F3⟩, R5, R8, R6⟩
  iapply (seg9 Z K c defs v13 v) $$ [HRun C9 S0 D0 S1 D1 S2 D2 S3 D3 S4 D4 S5 D5 S6 D6 S7 D7 S8 D8 S9 D9]
  · isplitl [HRun]; · iexact HRun
    isplitr; · iexact HR
    isplitl [C9]; · iexact C9
    unfold all10
    isplitl [S0 D0]
    · isplitl [S0]; · iexact S0
      iexact D0
    isplitl [S1 D1]
    · isplitl [S1]; · iexact S1
      iexact D1
    isplitl [S2 D2]
    · isplitl [S2]; · iexact S2
      iexact D2
    isplitl [S3 D3]
    · isplitl [S3]; · iexact S3
      iexact D3
    isplitl [S4 D4]
    · isplitl [S4]; · iexact S4
      iexact D4
    isplitl [S5 D5]
    · isplitl [S5]; · iexact S5
      iexact D5
    isplitl [S6 D6]
    · isplitl [S6]; · iexact S6
      iexact D6
    isplitl [S7 D7]
    · isplitl [S7]; · iexact S7
      iexact D7
    isplitl [S8 D8]
    · isplitl [S8]; · iexact S8
      iexact D8
    isplitl [S9]; · iexact S9
    iexact D9
  iintro ⟨HB, ⟨F4, F5⟩, R9, H2, V0, V1, H6, HO⟩
  unfold all10 Slot
  icases HB with ⟨⟨B0, S0⟩, ⟨B1, S1⟩, ⟨B2, S2⟩, ⟨B3, S3⟩, ⟨B4, S4⟩, ⟨B5, S5⟩, ⟨B6, S6⟩, ⟨B7, S7⟩, ⟨B8, S8⟩, ⟨B9, S9⟩⟩
  icases V0 with ⟨H8, V0⟩
  icases V1 with ⟨H8', V1⟩
  rw [show (pure ⟨⟩ : Prog (TpuEff nD τ sig (Elt F) Λ₀ .tc) PUnit) = .ret ⟨⟩ from rfl, wp_ret]
  imodintro
  isplitr [S0 S1 S2 S3 S4 S5 S6 S7 S8 S9 R0 R1 R2 R3 R4 R5 R6 R7 R8 R9 Hbar V0 V1 VW H0 B0 B1 B2 B3 HO]
  · isplitl [H1]; · iexact H1
    isplitl [H2]; · iexact H2
    isplitl [H3 H3' B4 B5 B6]
    · iapply (own_mono c M3.view (R := RX Z (prv c)) (fun _ _ _ _ => trivial))
      iapply (back3 Z c)
      isplitl [H3]
      · iexact H3
      isplitl [H3']; · iexact H3'
      isplitl [B4]; · iexact B4
      isplitl [B5]; · iexact B5
      iexact B6
    isplitl [H4 H4' B7 B8 B9]
    · iapply (own_mono c M4.view (R := RX Z (nxt c)) (fun _ _ _ _ => trivial))
      iapply (back4 Z c)
      isplitl [H4]; · iexact H4
      isplitl [H4']; · iexact H4'
      isplitl [B7]; · iexact B7
      isplitl [B8]; · iexact B8
      iexact B9
    isplitl [F0 F1 F2 F3 F4 F5]
    · iapply (own_mono c M5.view (R := RX Z (opp c)) (fun _ _ _ _ => trivial))
      iapply (back5 c)
      isplitl [F0 F2 F4]
      · isplitl [F0]; · iexact F0
        isplitl [F2]; · iexact F2
        iexact F4
      isplitl [F1]; · iexact F1
      isplitl [F3]; · iexact F3
      iexact F5
    isplitl [H6]; · iapply (own_mono c M6.view (fun _ _ _ _ => trivial)) $$ H6
    isplitl [H7]; · iexact H7
    iapply (own_join c M8.view yset_univ yset_disj)
    isplitl [H8]; · iexact H8
    iexact H8'
  isplitl [V0 V1 VW]
  · isplitl [V0]; · iexact V0
    isplitl [V1]; · iexact V1
    iexact VW
  isplitl [Hbar S0 S1 S2 S3 S4 S5 S6 S7 S8 S9 R0 R1 R2 R3 R4 R5 R6 R7 R8 R9]
  · isplitl [Hbar]; · iexact Hbar
    isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [H0 B0 B1 B2 B3]
  · iapply (back0 Z c)
    isplitl [H0]; · iexact H0
    isplitl [B0]; · iexact B0
    isplitl [B1]; · iexact B1
    isplitl [B2]; · iexact B2
    iexact B3
  iexact HO
end
end Cert.KProof
-- ==== Proof.Ghost.lean ====
/-
# What the launch deals

The ghost state of the scheduled cells, made at launch for all devices at once, and each device's part of it.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores: every scoped one but the staging's. -/
def osem (i : Fin 23) : SemLoc sig := .dma ⟨i.val + 1, by have := i.isLt; show i.val + 1 < 24; omega⟩

theorem ownSemFacts : Pipeline.OwnSemFacts cfg0.spec osem := by decide

theorem kcell_inj : Function.Injective (kcell : Dev nD × Fin 21 → GSem nD τ sig) := by
  rintro ⟨c, k⟩ ⟨d, l⟩ h
  have h1 : c = d := congrArg (fun g : GSem nD τ sig => g.1.1) h
  have h2 : k = l := ksem_inj (congrArg Prod.snd h)
  rw [h1, h2]

/-- The scheduled cells of all devices. -/
def allCells : Finset (GSem nD τ sig) := Finset.univ.map ⟨kcell, kcell_inj⟩

def tokT : Dev nD ↪ GSem nD τ sig × ℕ × Bool := ⟨fun c => (barCell c, 0, true), fun _ _ h => congrArg (fun x : GSem nD τ sig × ℕ × Bool => x.1.1.1) h⟩
def tokF : Dev nD × Fin 21 ↪ GSem nD τ sig × ℕ × Bool := ⟨fun ck => (kcell ck, 0, false), fun _ _ h => kcell_inj (congrArg Prod.fst h)⟩

/-- The duties' tokens: one for each cell, and a second for each barrier cell. -/
def allToks : Finset (GSem nD τ sig × ℕ × Bool) := Finset.univ.map tokT ∪ Finset.univ.map tokF

theorem toks_disj : Disjoint (Finset.univ.map tokT) (Finset.univ.map tokF) := by
  rw [Finset.disjoint_left]
  intro x hx hy
  obtain ⟨c, -, rfl⟩ := Finset.mem_map.mp hx
  obtain ⟨d, -, h⟩ := Finset.mem_map.mp hy
  exact Bool.noConfusion (congrArg (fun x : GSem nD τ sig × ℕ × Bool => x.2.2) h)

def u₀ : UU := (initOf (Pipeline.cells cfgs cellOf_inj) (Pipeline.launchToks cfgs cellOf_inj), (initOf allCells allToks, 1))

theorem all10_eq (f : Fin 10 → sProp 𝕄) : bigSep Finset.univ f = all10 f :=
  bigSep_univ_eq_bigSepL [0, 1, 2, 3, 4, 5, 6, 7, 8, 9] (by decide) (by decide) f

def sndE : Fin 10 ↪ SemLoc sig := ⟨fun j => .dma (sndS j), fun a b h => sndS_inj (by injection h)⟩
def rcvE : Fin 10 ↪ SemLoc sig := ⟨fun j => .dma (rcvS j), fun a b h => rcvS_inj (by injection h)⟩

/-- A device's scheduled cells, one kind after another. -/
theorem cells_split (Φ : SemLoc sig → sProp 𝕄) : bigSep Finset.univ (fun k : Fin 21 => Φ (ksem k))
    = iprop(Φ (.reg barS) ∗ all10 (fun j => Φ (.dma (sndS j))) ∗ all10 (fun j => Φ (.dma (rcvS j)))) := by
  refine (bigSep_map (s := Finset.univ) ⟨ksem, ksem_inj⟩ (Φ := Φ)).symm.trans ?_
  rw [show (Finset.univ.map ⟨ksem, ksem_inj⟩ : Finset (SemLoc sig)) = insert (.reg barS) (Finset.univ.map sndE ∪ Finset.univ.map rcvE) from by decide,
    bigSep_insert (by decide), bigSep_union (by decide), bigSep_map, bigSep_map, all10_eq, all10_eq]
  rfl

/-- The kernel's own semaphores, one kind after another. -/
theorem own_split_sems (Φ : SemLoc sig → sProp 𝕄) : bigSep Finset.univ (fun k : Fin 23 => Φ (osem k))
    = iprop((all10 (fun j => Φ (.dma (sndS j))) ∗ all10 (fun j => Φ (.dma (rcvS j)))) ∗ Φ (.dma (stS 0)) ∗ Φ (.dma (stS 1)) ∗ Φ (.dma wS)) := by
  refine (bigSep_map (s := Finset.univ) ⟨osem, ownSemFacts.inj⟩ (Φ := Φ)).symm.trans ?_
  rw [show (Finset.univ.map ⟨osem, ownSemFacts.inj⟩ : Finset (SemLoc sig)) = (Finset.univ.map sndE ∪ Finset.univ.map rcvE) ∪ {.dma (stS 0), .dma (stS 1), .dma wS} from by decide,
    bigSep_union (by decide), bigSep_union (by decide), bigSep_map, bigSep_map, all10_eq, all10_eq, bigSep_insert (by decide), bigSep_insert (by decide), bigSep_singleton]
  rfl

variable (Z : Spec F) (K : Dev nD × Fin 21 → ℕ) (c : Dev nD)

omit [FloatOps F] in
theorem unscoped_bar : (unscopedSems0 c : sProp 𝕄) = semVal (barCell c) 0 := by
  unfold unscopedSems0; rw [bigSep_eq_bigSepL_of_eq [SemLoc.reg barS] (by decide) (by decide)]; rfl

/-- All a device's semaphores, at zero. -/
theorem sems_split : iprop(Pipeline.ownSems0 (Ix := Unit) (Name := ℕ) (U := UU) (Lvl := ℕ) (Val := Elt F) (τ := τ) osem c ∗ unscopedSems0 c)
    ⊣⊢ iprop(Cells0 (F := F) c ∗ Sems0 (F := F) c : sProp 𝕄) := by
  have h : (Pipeline.ownSems0 (Ix := Unit) (Name := ℕ) (U := UU) (Lvl := ℕ) (Val := Elt F) (τ := τ) osem c : sProp 𝕄)
      = iprop((all10 (F := F) (fun j => semVal (sndCell c j) 0) ∗ all10 (F := F) (fun j => semVal (rcvCell c j) 0)) ∗ Sems0 (F := F) c) :=
    own_split_sems (fun s => semVal ((c : Thread nD τ), s) 0)
  rw [h, unscoped_bar]
  unfold Cells0
  constructor
  · iintro ⟨⟨⟨HS, HR⟩, H0⟩, HB⟩
    isplitr [H0]
    · isplitl [HB]; · iexact HB
      isplitl [HS]; · iexact HS
      iexact HR
    iexact H0
  · iintro ⟨⟨HB, HS, HR⟩, H0⟩
    isplitr [HB]
    · isplitl [HS HR]
      · isplitl [HS]; · iexact HS
        iexact HR
      iexact H0
    iexact HB

/-- The tokens of a device's own cells. -/
def toks : sProp 𝕄 := iprop(dutyTok ER (barCell c) 0 true ∗ bigSep Finset.univ fun k : Fin 21 => dutyTok ER (kcell (c, k)) 0 false)

/-- What the launch makes for a device. -/
def G : sProp 𝕄 :=
  iprop((bigSep Finset.univ fun k : Fin 21 => roundState ER (Rd Z) (kcell (c, k)) 0)
    ∗ (bigSep Finset.univ fun k : Fin 21 => atPos ER (kcell (c, k)) 0 ∅ 0) ∗ (bigSep Finset.univ fun k : Fin 21 => reached ER (kcell (c, k)) 0) ∗ toks (F := F) c)

/-- The tokens a device spends: its neighbours' barrier cells', its send cells', and the receive cells' it sends to. -/
def spends : sProp 𝕄 := iprop(dutyTok ER (barCell (prv c)) 0 true ∗ dutyTok ER (barCell (nxt c)) 0 false ∗ all10 (F := F) (SndTok (F := F) c))
/-- A device's places in its cells. -/
def places : sProp 𝕄 := iprop(atPos ER (barCell c) 0 ∅ 0 ∗ all10 (F := F) (fun j => atPos ER (sndCell c j) 0 ∅ 0) ∗ all10 (F := F) (fun j => atPos ER (rcvCell c j) 0 ∅ 0))

/-- What a device has of it when its body starts. -/
def G' : sProp 𝕄 := iprop(∃ K, records Z K ∗ (places (F := F) c ∗ Sems0 (F := F) c) ∗ spends (F := F) c)

theorem per_cell (Φ : GSem nD τ sig → sProp 𝕄) : bigSep allCells Φ = bigSep Finset.univ fun c : Dev nD => bigSep Finset.univ fun k : Fin 21 => Φ (kcell (c, k)) := by
  unfold allCells; rw [bigSep_map, bigSep_univ_prod]; rfl

theorem per_tok : bigSep allToks (fun x => (dutyTok ER x.1 x.2.1 x.2.2 : sProp 𝕄)) = bigSep Finset.univ fun c : Dev nD => toks (F := F) c := by
  unfold allToks toks; rw [bigSep_union toks_disj, bigSep_map, bigSep_map, bigSep_univ_prod, bigSep_sep']; rfl

theorem fund : BI.own (ER (initOf allCells allToks)) ⊢ (|==> bigSep Finset.univ (G Z) : sProp 𝕄) := by
  iintro H
  imod (Rounds.fund ER (Rd Z) allCells allToks) $$ H with ⟨Hst, Hr, Hat, Htok⟩
  imodintro
  ihave Hst := (Entails.of_eq (per_cell fun g => roundState ER (Rd Z) g 0)) $$ Hst
  ihave Hat := (Entails.of_eq (per_cell fun g => atPos ER g 0 ∅ 0)) $$ Hat
  ihave Hr := (Entails.of_eq (per_cell fun g => reached ER g 0)) $$ Hr
  ihave Htok := (Entails.of_eq (per_tok (F := F))) $$ Htok
  unfold G
  simp only [bigSep_sep']
  isplitl [Hst]; · iexact Hst
  isplitl [Hat]; · iexact Hat
  isplitl [Hr]; · iexact Hr
  iexact Htok

/-- A device's cells get their invariants. -/
theorem alloc : iprop(Pipeline.ownSems0 (Ix := Unit) (Name := ℕ) (U := UU) (Lvl := ℕ) (Val := Elt F) (τ := τ) osem c ∗ unscopedSems0 c ∗ G Z c)
    ⊢ |={Set.univ}=> iprop((bigSep Finset.univ fun k : Fin 21 => iprop(∃ κ : ℕ, cellInv ER (Rd Z) κ (kcell (c, k))))
        ∗ (bigSep Finset.univ fun k : Fin 21 => reached ER (kcell (c, k)) 0) ∗ (places (F := F) c ∗ Sems0 (F := F) c) ∗ toks (F := F) c) := by
  unfold G
  iintro ⟨Hos, Hus, Hst, Hat, Hr, Htok⟩
  ihave Hv := (sems_split (F := F) c).1 $$ [Hos Hus]
  · isplitl [Hos] <;> iassumption
  icases Hv with ⟨Hv, H0⟩
  ihave Hv := (show Cells0 (F := F) c ⊢ bigSep Finset.univ fun k : Fin 21 => semVal (kcell (c, k)) 0 from
    Entails.of_eq (cells_split (fun s => semVal ((c : Thread nD τ), s) 0)).symm) $$ Hv
  ihave Hat := (show (bigSep Finset.univ fun k : Fin 21 => atPos ER (kcell (c, k)) 0 ∅ 0) ⊢ places (F := F) c from
    Entails.of_eq (cells_split (fun s => atPos ER ((c : Thread nD τ), s) 0 ∅ 0))) $$ Hat
  imod (show iprop((bigSep Finset.univ fun k : Fin 21 => semVal (kcell (c, k)) 0) ∗ bigSep Finset.univ fun k : Fin 21 => roundState ER (Rd Z) (kcell (c, k)) 0)
      ⊢ (|={Set.univ}=> bigSep Finset.univ fun k : Fin 21 => iprop(∃ κ : ℕ, cellInv ER (Rd Z) κ (kcell (c, k))) : sProp 𝕄) from by
        rw [← bigSep_sep']
        exact (bigSep_mono fun k _ => (Rounds.body_intro ER (Rd Z) (kcell (c, k))).trans inv_alloc).trans (bigSep_fupd _ _)) $$ [Hv Hst] with Hinv
  · isplitl [Hv] <;> iassumption
  imodintro
  isplitl [Hinv]; · iexact Hinv
  isplitl [Hr]; · iexact Hr
  isplitr [Htok]
  · isplitl [Hat]; · iexact Hat
    iexact H0
  iexact Htok

/-- Who sends a transfer, and to whom: a bijection of the devices, transfer by transfer. -/
def legs : Dev nD × Fin 10 ≃ Dev nD × Fin 10 :=
  ⟨fun x => (legDst x.1 x.2, x.2), fun x => (legFrom x.1 x.2, x.2), fun x => Prod.ext (legFrom_dst x.1 x.2) rfl, fun x => Prod.ext (legDst_from x.1 x.2) rfl⟩

theorem rcv_toks (Φ : Dev nD → Fin 10 → sProp 𝕄) : (bigSep Finset.univ fun c => all10 (F := F) (Φ c)) = bigSep Finset.univ fun c => all10 (F := F) (fun j => Φ (legDst c j) j) := by
  rw [bigSep_congr (s := Finset.univ) (fun c _ => (all10_eq (Φ c)).symm), bigSep_congr (s := Finset.univ) (fun c _ => (all10_eq (fun j => Φ (legDst c j) j)).symm),
    ← bigSep_univ_prod (fun x : Dev nD × Fin 10 => Φ x.1 x.2), ← bigSep_univ_prod (fun x : Dev nD × Fin 10 => Φ (legDst x.1 x.2) x.2), bigSep_univ_equiv legs]
  rfl

theorem all10_sep (f g : Fin 10 → sProp 𝕄) : all10 (F := F) (fun j => iprop(f j ∗ g j)) = iprop(all10 f ∗ all10 g) := by
  rw [← all10_eq, ← all10_eq, ← all10_eq, bigSep_sep']

/-- The tokens go to the devices that spend them. -/
theorem deal : (bigSep Finset.univ fun c : Dev nD => toks (F := F) c) ⊢ bigSep Finset.univ fun c : Dev nD => spends (F := F) c := by
  have h (c : Dev nD) : toks (F := F) c = iprop(dutyTok ER (barCell c) 0 true ∗ dutyTok ER (barCell c) 0 false
      ∗ all10 (F := F) (fun j => dutyTok ER (sndCell c j) 0 false) ∗ all10 (F := F) (fun j => dutyTok ER (rcvCell c j) 0 false)) :=
    congrArg (fun P => iprop(dutyTok ER (barCell c) 0 true ∗ P)) (cells_split (fun s => dutyTok ER ((c : Thread nD τ), s) 0 false))
  have h' (c : Dev nD) : spends (F := F) c = iprop(dutyTok ER (barCell (prv c)) 0 true ∗ dutyTok ER (barCell (nxt c)) 0 false
      ∗ all10 (F := F) (fun j => dutyTok ER (sndCell c j) 0 false) ∗ all10 (F := F) (fun j => dutyTok ER (rcvCell (legDst c j) j) 0 false)) := by
    unfold spends; rw [← all10_sep]; rfl
  rw [bigSep_congr (s := Finset.univ) (fun c _ => h c), bigSep_congr (s := Finset.univ) (fun c _ => h' c)]
  simp only [bigSep_sep']
  rw [rcv_toks (fun c j => dutyTok ER (rcvCell c j) 0 false), bigSep_univ_equiv ring.symm (fun c : Dev nD => (dutyTok ER (barCell c) 0 true : sProp 𝕄)),
    bigSep_univ_equiv ring (fun c : Dev nD => (dutyTok ER (barCell c) 0 false : sProp 𝕄))]
  exact BIBase.Entails.refl

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' parts of it. -/
theorem regroup : (bigSep Finset.univ fun c : Dev nD => iprop((bigSep Finset.univ fun k : Fin 21 => iprop(∃ κ : ℕ, cellInv ER (Rd Z) κ (kcell (c, k))))
        ∗ (bigSep Finset.univ fun k : Fin 21 => reached ER (kcell (c, k)) 0) ∗ (places (F := F) c ∗ Sems0 (F := F) c) ∗ toks (F := F) c) : sProp 𝕄)
    ⊢ bigSep Finset.univ (G' Z) := by
  rw [bigSep_sep', bigSep_sep', bigSep_sep', ← bigSep_univ_prod (fun ck : Dev nD × Fin 21 => iprop(∃ κ : ℕ, cellInv ER (Rd Z) κ (kcell ck))),
    ← bigSep_univ_prod (fun ck : Dev nD × Fin 21 => (reached ER (kcell ck) 0 : sProp 𝕄))]
  iintro ⟨HI, #HR, Hpl, Htok⟩
  ihave HK := (BI.bigSep_exists_pi Finset.univ (fun (ck : Dev nD × Fin 21) (κ : ℕ) => (cellInv ER (Rd Z) κ (kcell ck) : sProp 𝕄))) $$ HI
  icases HK with ⟨%K, #HI⟩
  ihave Htok := (deal (F := F)) $$ Htok
  iapply (spread (R := records Z K) (Φ := fun c => iprop((places (F := F) c ∗ Sems0 (F := F) c) ∗ spends (F := F) c)) (fun c _ => by
    unfold G'; iintro H; iexists K; iexact H))
  isplitr
  · unfold records
    isplitr; · iexact HI
    iexact HR
  iapply (Entails.of_eq (bigSep_sep' Finset.univ (fun c : Dev nD => iprop(places (F := F) c ∗ Sems0 (F := F) c)) (fun c => spends (F := F) c)).symm)
  isplitl [Hpl]; · iexact Hpl
  iexact Htok

theorem glob : (bigSep Finset.univ fun c => iprop(Pipeline.ownSems0 (Ix := Unit) (Name := ℕ) (U := UU) (Lvl := ℕ) (Val := Elt F) (τ := τ) osem c ∗ unscopedSems0 c ∗ G Z c) : sProp 𝕄)
    ⊢ |={Set.univ}=> bigSep Finset.univ (G' Z) :=
  ((bigSep_mono fun c _ => alloc Z c).trans (bigSep_fupd _ _)).trans (BI.fupd_mono (regroup Z))

/-! ## The credits -/

/-- One transfer's credit. -/
theorem cred_leg (k : ℕ) (j : Fin 10) (hj : Fin.ofNat 10 (9 - k) = j) :
    (Pipeline.launchCred (fun d => owe d (k + 1)) c : sProp 𝕄) ⊢ iprop(cred (tallyAt (rcvCell c j) () (legN j)) ∗ Pipeline.launchCred (fun d => owe d k) c) := by
  subst hj
  rw [show (fun d => owe d (k + 1)) = fun d => owe d k + tallyAt (rcvCell (legDst d (Fin.ofNat 10 (9 - k))) (Fin.ofNat 10 (9 - k))) () (legN (Fin.ofNat 10 (9 - k))) from rfl,
    Pipeline.launchCred_add]
  iintro ⟨H, H'⟩
  isplitl [H']
  · iapply (Pipeline.launchCred_tallyAt (.dma (rcvS (Fin.ofNat 10 (9 - k)))) (fun d => legDst d (Fin.ofNat 10 (9 - k))) (fun d => legFrom d (Fin.ofNat 10 (9 - k)))
      (fun d => legDst_from d _) (fun d => legFrom_dst d _) () (legN (Fin.ofNat 10 (9 - k))) c) $$ H'
  iexact H

/-- A device's credits: what the others owe it. -/
theorem creds : (Pipeline.launchCred O₀ c : sProp 𝕄) ⊢ iprop(cred (tallyAt (barCell c) () 2) ∗ all10 (F := F) (fun j => cred (tallyAt (rcvCell c j) () (legN j)))) := by
  rw [show O₀ = fun d => O₁ d + tallyAt (barCell (prv d)) () 1 from rfl, Pipeline.launchCred_add, show O₁ = fun d => owe d 10 + tallyAt (barCell (nxt d)) () 1 from rfl,
    Pipeline.launchCred_add]
  iintro ⟨⟨H, HN⟩, HP⟩
  ihave HN := (Pipeline.launchCred_tallyAt (.reg barS) nxt prv nxt_prv prv_nxt () 1 c) $$ HN
  ihave HP := (Pipeline.launchCred_tallyAt (.reg barS) prv nxt prv_nxt nxt_prv () 1 c) $$ HP
  isplitl [HN HP]
  · rw [show (tallyAt (barCell c) () 2 : CellTallies nD τ sig Unit) = tallyAt (barCell c) () 1 + tallyAt (barCell c) () 1 from (tallyAt_add _ _ 1 1).symm]
    iapply (cred_add _ _).2
    isplitl [HN]; · iexact HN
    iexact HP
  unfold all10
  ihave H := (cred_leg (F := F) c 9 0 rfl) $$ H
  icases H with ⟨H0, H⟩
  isplitl [H0]; · iexact H0
  ihave H := (cred_leg (F := F) c 8 1 rfl) $$ H
  icases H with ⟨H0, H⟩
  isplitl [H0]; · iexact H0
  ihave H := (cred_leg (F := F) c 7 2 rfl) $$ H
  icases H with ⟨H0, H⟩
  isplitl [H0]; · iexact H0
  ihave H := (cred_leg (F := F) c 6 3 rfl) $$ H
  icases H with ⟨H0, H⟩
  isplitl [H0]; · iexact H0
  ihave H := (cred_leg (F := F) c 5 4 rfl) $$ H
  icases H with ⟨H0, H⟩
  isplitl [H0]; · iexact H0
  ihave H := (cred_leg (F := F) c 4 5 rfl) $$ H
  icases H with ⟨H0, H⟩
  isplitl [H0]; · iexact H0
  ihave H := (cred_leg (F := F) c 3 6 rfl) $$ H
  icases H with ⟨H0, H⟩
  isplitl [H0]; · iexact H0
  ihave H := (cred_leg (F := F) c 2 7 rfl) $$ H
  icases H with ⟨H0, H⟩
  isplitl [H0]; · iexact H0
  ihave H := (cred_leg (F := F) c 1 8 rfl) $$ H
  icases H with ⟨H0, H⟩
  isplitl [H0]; · iexact H0
  ihave H := (cred_leg (F := F) c 0 9 rfl) $$ H
  icases H with ⟨H0, -⟩
  iexact H0

/-- What a device is dealt. -/
theorem dealt : iprop(spends (F := F) c ∗ places (F := F) c ∗ cred (tallyAt (barCell c) () 2) ∗ all10 (F := F) (fun j => cred (tallyAt (rcvCell c j) () (legN j))))
    ⊢ Dealt (F := F) c := by
  unfold spends places Dealt
  iintro ⟨Ht, ⟨Hb, HS, HR⟩, Hc, HC⟩
  isplitl [Ht]; · iexact Ht
  isplitl [Hb Hc]
  · isplitl [Hb]; · iexact Hb
    iexact Hc
  isplitl [HS]; · iexact HS
  iapply (show iprop(all10 (F := F) (fun j => atPos ER (rcvCell c j) 0 ∅ 0) ∗ all10 (F := F) (fun j => cred (tallyAt (rcvCell c j) () (legN j)))) ⊢ all10 (F := F) (RcvTok (F := F) c) from
    Entails.of_eq (all10_sep _ _).symm)
  isplitl [HR]; · iexact HR
  iexact HC
end Cert.KProof
-- ==== Proof.Main.lean ====
/-
# The run

The launch of the body on all devices, at any floats and for any specification that fits the memory it starts from.
-/
module

public import proofs.«01_k».proof.Proof.Ghost

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

section Whole
variable (c : Dev nD) (b : Ref sig .tc) {R : b.ty.shape.Idx → Elt F b.ty.elt → Prop}

theorem own_of_whole (f : Buf (Elt F) ((c : Thread nD τ).loc b)) (h : ∀ p, R p (f p)) :
    ((((c : Thread nD τ).loc b) ↦{fullShare} f : sProp 𝕄)) ⊢ own c (View.whole b) Finset.univ fullShare R := by
  unfold own
  rw [View.setOn_univ, View.set_whole]
  iintro H
  iexists f
  isplitl [H]; · iexact H
  ipureintro
  exact fun p _ => h p

theorem own_to_whole : own c (View.whole b) Finset.univ fullShare R
    ⊢ iprop(∃ f : Buf (Elt F) ((c : Thread nD τ).loc b), (((c : Thread nD τ).loc b) ↦{fullShare} f) ∗ ⌜∀ p, R p (f p)⌝ : sProp 𝕄) := by
  unfold own
  rw [View.setOn_univ, View.set_whole]
  iintro ⟨%f, H, %h⟩
  iexists f
  isplitl [H]; · iexact H
  ipureintro
  exact fun p => h p (Finset.mem_univ p)
end Whole

section
variable (m : (ℓ : Loc nD τ sig) → Buf (Elt F) ℓ) (ρ : Dev nD → PrngReg)

/-- Device `c`'s block of `x`, as staged. -/
def xstg (c : Dev nD) : Vec F S1024x4096 .bf16 := (win0_0.blk (0 : Fin 1)).view.read (Elt F) (m ((c : Thread nD τ).loc main_arg0))
/-- Device `c`'s columns of the weights. -/
def wmem (c : Dev nD) : Vec F S4096x2048 .f32 := m ((c : Thread nD τ).loc main_arg1)

variable (Z : Spec F)

/-- What a device has when its body starts, but the staged block. -/
def start (c : Dev nD) : sProp 𝕄 :=
  iprop(levAts L lv ∗ (∃ K, records Z K) ∗ Dealt (F := F) c ∗ Sems0 (F := F) c ∗ own c M1.view Finset.univ fullShare (fun p y => y = Z.wf c p)
    ∗ own c M2.view Finset.univ fullShare (Any (F := F)))
def Φ₀ (c : Dev nD) : sProp 𝕄 := iprop(levAts L lv ∗ (∃ K, records Z K) ∗ Dealt (F := F) c ∗ Sems0 (F := F) c ∗ Bufs Z c Any)
def Φ₁ (c : Dev nD) : sProp 𝕄 := iprop(Bufs Z c (Z.RO c) ∗ Sems0 (F := F) c ∗ Cells0 (F := F) c)
/-- What the run keeps of the buffers outside the kernel. -/
def kept (c : Dev nD) : sProp 𝕄 :=
  iprop(own c M1.view Finset.univ fullShare (fun p y => y = Z.wf c p) ∗ own c M2.view Finset.univ fullShare (Z.RO c) ∗ unscopedSems0 c)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ Z c
    | ⟨_ + 1, _⟩ => Φ₁ Z c
  q _ := fullShare
  owed t := match t with
    | ⟨0, _⟩ => O₀ c
    | ⟨_ + 1, _⟩ => 0

/-- The staging buffer, as the pipeline owns it. -/
theorem owns_stage (c : Dev nD) (X : Vec F S1024x4096 .bf16) :
    (owns (Ix := Unit) (Name := ℕ) (U := UU) (Lvl := ℕ) (c : Thread nD τ) (Memref.whole cc0_stg0_0) fullShare X : sProp 𝕄)
      ⊣⊢ own c M0.view Finset.univ fullShare (fun p y => y = X p) := by
  unfold owns own
  rw [show M0.view = (Memref.whole cc0_stg0_0).view from rfl, View.setOn_univ]
  constructor
  · iintro ⟨%f, %h, H⟩
    iexists f
    isplitl [H]; · iexact H
    ipureintro
    exact fun p _ => congrFun h p
  · iintro ⟨%f, H, %h⟩
    iexists f
    isplitr; · ipureintro; exact funext fun p => h p (Finset.mem_univ p)
    iexact H

abbrev t₀ : Fin cfg0.N := t0_0

theorem staged (c : Dev nD) (d) : (dats m Z 0 c).before (0 : Fin 1) t₀ d = xstg m c := by
  unfold Dat.before; rw [if_pos (fetch0_0 t₀)]; rfl

variable (hxb : ∀ c, Z.xb c = xstg m c)
include hxb

theorem staged_RX (c : Dev nD) : ∀ p ∈ (Finset.univ : Finset S1024x4096.Idx), ∀ y, y = xstg m c p → RX Z c p y := fun p _ y h => by
  subst h; exact (congrFun (hxb c) p).symm
theorem RX_staged (c : Dev nD) : ∀ p ∈ (Finset.univ : Finset S1024x4096.Idx), ∀ y, RX Z c p y → y = xstg m c p := fun p _ y h =>
  h.trans (congrFun (hxb c) p)

set_option maxRecDepth 100000 in
theorem body_obligation (c : Dev nD) : BodyObligation (dats m Z 0 c) (defs₀ (F := F)) 𝒱₀ () Set.univ := fun t => by
  rw [fin_N0 t, bigSep_W0, bigSep_W0]
  show iprop(Φ₀ Z c ∗ (dats m Z 0 c).owesAt () t₀.castSucc ∗ (∃ d, owns (c : Thread nD τ) (Memref.whole cc0_stg0_0) fullShare ((dats m Z 0 c).before (0 : Fin 1) t₀ d)))
    ⊢ wp frame (wpE (defs₀ (F := F)) 𝒱₀ c none) Set.univ (bodyAt0 t₀) (fun _ => iprop(Φ₁ Z c ∗ (dats m Z 0 c).owesAt () t₀.succ
      ∗ owns (c : Thread nD τ) (Memref.whole cc0_stg0_0) fullShare (xstg m c)))
  rw [body_chain t₀]
  iintro ⟨H, Ho, ⟨%d, Hx⟩⟩
  unfold Φ₀
  icases H with ⟨Hl, ⟨%K, Hr⟩, HD, H0, HB⟩
  unfold Dat.owesAt Pipeline.owesWithin
  icases Ho with ⟨%W, %hW, HO⟩
  rw [show (dats m Z 0 c).owed t₀.castSucc = O₀ c from rfl, show (dats m Z 0 c).owed t₀.succ = 0 from rfl, staged m Z c d]
  ihave Hx := (owns_stage c (xstg m c)).1 $$ Hx
  iapply (wp_wand_r _ _ _)
  isplitl [Hl Hr HD H0 HB Hx HO]
  · iapply (body_run Z K c defs₀)
    isplitl [Hl]; · iexact Hl
    isplitl [Hr]; · iexact Hr
    isplitl [HD]; · iexact HD
    isplitl [HB]; · iexact HB
    isplitl [H0]; · iexact H0
    isplitl [Hx]
    · iapply (own_mono c M0.view (staged_RX m Z hxb c)) $$ Hx
    unfold Ow; iexists W; iexact HO
  iintro %_ ⟨HB, H0, HC, Hx, HO⟩
  unfold Φ₁
  isplitl [HB H0 HC]
  · isplitl [HB]; · iexact HB
    isplitl [H0] <;> iassumption
  isplitl [HO]
  · unfold Ow
    icases HO with ⟨%W', HO⟩
    iexists W'
    isplitr; · ipureintro; exact fun _ _ => Or.inl trivial
    iexact HO
  iapply (owns_stage c (xstg m c)).2
  iapply (own_mono c M0.view (RX_staged m Z hxb c)) $$ Hx
omit hxb

theorem waits (c : Dev nD) : (levAts L lv : sProp 𝕄) ⊢ Pipeline.cellsWaits cfgs (dats m Z) () 0 c :=
  Pipeline.cellsWaits_intro cfgs (dats m Z) () 0 c fun w s t =>
    mayWait_stage c _ (by fin_cases w <;> fin_cases s <;> decide) _ (by
      rcases t with ⟨_ | _, ht⟩
      · exact Or.inl rfl
      · exact Or.inr rfl)

theorem shares (c : Dev nD) (w : Fin cfg0.W) : (dats m Z 0 c).share w = fullShare := by
  unfold Dat.share; split <;> rfl

variable (hwf : ∀ c, Z.wf c = wmem m c)
include hwf in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Z c)
      ⊢ |={Set.univ}=> iprop(start Z c ∗ emp) := by
  rw [Pipeline.unscopedRestP_none, unscopedRest0_eq]
  unfold G' start
  iintro ⟨⟨H1, H2⟩, Hl, Hc, -, ⟨%K, Hr, ⟨Hp, H0⟩, Hs⟩⟩
  ihave Hc := (creds (F := F) c) $$ Hc
  icases Hc with ⟨Hb, Hc⟩
  imodintro
  isplitl
  · isplitl [Hl]; · iexact Hl
    isplitl [Hr]; · iexists K; iexact Hr
    isplitl [Hp Hs Hb Hc]
    · iapply (dealt (F := F) c)
      isplitl [Hs]; · iexact Hs
      isplitl [Hp]; · iexact Hp
      isplitl [Hb] <;> iassumption
    isplitl [H0]; · iexact H0
    isplitl [H1]
    · iapply (own_of_whole c main_arg1 (m ((c : Thread nD τ).loc main_arg1)) (R := fun p y => y = Z.wf c p) (fun p => (congrFun (hwf c) p).symm)) $$ H1
    iapply (own_of_whole c main_v1 _ (R := Any (F := F)) (fun _ => trivial)) $$ H2
  · iempintro

theorem phi0_intro (c : Dev nD) :
    iprop(start Z c ∗ Pipeline.prefHeld Pipeline.Prefetch.none c (fun _ => fullShare.right) (fun k => k.elim0) ∗ Pipeline.scopedRest cfg0.spec c)
      ⊢ (dats m Z 0 c).Φ 0 := by
  rw [show (dats m Z 0 c).Φ 0 = Φ₀ Z c from rfl, scopedRest0_eq]
  unfold Φ₀ start Bufs
  iintro ⟨⟨Hl, Hr, HD, H0, H1, H2⟩, -, ⟨⟨%f3, H3⟩, ⟨%f4, H4⟩, ⟨%f5, H5⟩, ⟨%f6, H6⟩, ⟨%f7, H7⟩, ⟨%f8, H8⟩⟩⟩
  isplitl [Hl]; · iexact Hl
  isplitl [Hr]; · iexact Hr
  isplitl [HD]; · iexact HD
  isplitl [H0]; · iexact H0
  isplitl [H1]; · iexact H1
  isplitl [H2]; · iexact H2
  isplitl [H3]; · iapply (own_of_whole c cc0_scratch0 f3 (R := Any (F := F)) (fun _ => trivial)) $$ H3
  isplitl [H4]; · iapply (own_of_whole c cc0_scratch1 f4 (R := Any (F := F)) (fun _ => trivial)) $$ H4
  isplitl [H5]; · iapply (own_of_whole c cc0_scratch2 f5 (R := Any (F := F)) (fun _ => trivial)) $$ H5
  isplitl [H6]; · iapply (own_of_whole c cc0_scratch3 f6 (R := Any (F := F)) (fun _ => trivial)) $$ H6
  isplitl [H7]; · iapply (own_of_whole c cc0_scratch4 f7 (R := Any (F := F)) (fun _ => trivial)) $$ H7
  iapply (own_of_whole c cc0_scratch5 f8 (R := Any (F := F)) (fun _ => trivial)) $$ H8

/-- A buffer back with some contents. -/
theorem some_of_own (c : Dev nD) (b : Ref sig .tc) {R : b.ty.shape.Idx → Elt F b.ty.elt → Prop} :
    own c (View.whole b) Finset.univ fullShare R ⊢ iprop(∃ f : Buf (Elt F) ((c : Thread nD τ).loc b), (((c : Thread nD τ).loc b) ↦{fullShare} f) : sProp 𝕄) := by
  iintro H
  ihave H := (own_to_whole c b) $$ H
  icases H with ⟨%f, H, -⟩
  iexists f; iexact H

theorem phi1_exit (c : Dev nD) :
    (dats m Z 0 c).Φ (Fin.last cfg0.N) ⊢ iprop(kept Z c ∗ Pipeline.ownSems0 osem c ∗ Pipeline.scopedRest cfg0.spec c) := by
  rw [show (dats m Z 0 c).Φ (Fin.last cfg0.N) = Φ₁ Z c from rfl, scopedRest0_eq]
  unfold Φ₁ kept Bufs
  iintro ⟨⟨H1, H2, H3, H4, H5, H6, H7, H8⟩, H0, HC⟩
  ihave HS := (sems_split (F := F) c).2 $$ [H0 HC]
  · isplitl [HC] <;> iassumption
  icases HS with ⟨Ho, Hu⟩
  isplitl [H1 H2 Hu]
  · isplitl [H1]; · iexact H1
    isplitl [H2] <;> iassumption
  isplitl [Ho]; · iexact Ho
  isplitl [H3]; · iapply (some_of_own c cc0_scratch0) $$ H3
  isplitl [H4]; · iapply (some_of_own c cc0_scratch1) $$ H4
  isplitl [H5]; · iapply (some_of_own c cc0_scratch2) $$ H5
  isplitl [H6]; · iapply (some_of_own c cc0_scratch3) $$ H6
  isplitl [H7]; · iapply (some_of_own c cc0_scratch4) $$ H7
  iapply (some_of_own c cc0_scratch5) $$ H8

/-- What the run is known to leave outside the kernel on a device. -/
def Left (c : Dev nD) (s : MemSt nD τ sig (Elt F)) : Prop :=
  s.mem ((c : Thread nD τ).loc main_arg1) = wmem m c ∧ (∀ p, Z.RO c p ((s.mem ((c : Thread nD τ).loc main_v1) : Vec F S4096x2048 .bf16) p))
    ∧ ∀ sm : SemLoc sig, sm.isScoped .tc = false → s.sem ((c.tc : Thread nD τ), sm) = 0

theorem read_left (c : Dev nD) (s : Phys nD τ sig (Elt F)) (hwf : ∀ c, Z.wf c = wmem m c) :
    iprop(kept Z c ∗ emp ∗ SI s) ⊢ |={Set.univ}=> iprop(⌜Left m Z c s.mem⌝ ∗ SI s : sProp 𝕄) := by
  unfold kept
  iintro ⟨⟨H1, H2, Hu⟩, -, HSI⟩
  ihave H1 := (own_to_whole c main_arg1) $$ H1
  icases H1 with ⟨%f1, H1, %h1⟩
  ihave H2 := (own_to_whole c main_v1) $$ H2
  icases H2 with ⟨%f2, H2, %h2⟩
  ihave %e1 := SI_pointsTo_agree $$ [HSI H1]
  · isplitl [HSI] <;> iassumption
  ihave %e2 := SI_pointsTo_agree $$ [HSI H2]
  · isplitl [HSI] <;> iassumption
  ihave %h3 := (tcUnscoped_read c s) $$ [Hu HSI]
  · isplitl [Hu] <;> iassumption
  imodintro
  isplitr
  · ipureintro
    exact ⟨funext fun p => (e1 p (Finset.mem_univ p)).trans ((h1 p).trans (congrFun (hwf c) p)),
      fun p => by rw [e2 p (Finset.mem_univ p)]; exact h2 p, h3⟩
  iexact HSI

/-- The run, as far as the claims need it. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ ∀ p, Z.RO c p ((r.2.mem ((c : Thread nD τ).loc main_v1) : Vec F S4096x2048 .bf16) p))
  ∧ r.2.sem = fun _ => 0

set_option maxRecDepth 100000 in
/-- From any memory with zero counters, every weakly fair execution of all four devices ends: the arguments are as they were,
    every element of the result is as specified, every counter is zero. -/
theorem run_main (hxb : ∀ c, Z.xb c = xstg m c) (hwf : ∀ c, Z.wf c = wmem m c) :
    θ_run defs (onTc (τ := τ) (main (F := F))) (s₀ m ρ) (Ends m Z) :=
  Pipeline.θ_run_region_owing_glob_pf (fun p => (cfgs p).toPCfg) (fun p => (cfgs p).toPCfg_adm) (dats m Z) () cellOf_inj (0 : Fin 1)
    winFacts0.to₀ ownSemFacts (Pipeline.PreFacts.none _) embL defs₀ 𝒱₀ m ρ main
    (hmain := fun _ => rfl)
    (hbody := body_obligation m Z hxb) (hne := fun w => by fin_cases w; exact Nat.succ_pos _) (harr := arr_whole0) (hstage := stage_whole0)
    (hshare := shares m Z)
    (hdistinct := winFacts0.arr_inj)
    (O₀ := O₀) (howed₀ := fun _ => rfl) (howedN := fun _ => rfl)
    (L := L) (lv := lv) (hL := L_of_ne) (hwaits := waits m Z)
    (G := G Z) (G' := G' Z) (u₀ := u₀)
    (hu₀ := by
      unfold u₀
      iintro Hu
      ihave H := (ownU_pair _ _) $$ Hu
      icases H with ⟨HP, HX⟩
      imod (show BI.own (embR (initOf allCells allToks, 1)) ⊢ (|==> bigSep Finset.univ (G Z) : sProp 𝕄) from fund Z) $$ HX with HG
      imodintro
      isplitl [HP] <;> iassumption)
    (hglob := glob Z)
    (hA := fun _ _ => rfl) (hpf := fun _ k => k.elim0)
    (X := start Z) (Y := kept Z) (Z := fun _ => iprop(emp))
    (hX := start_intro m ρ Z hwf) (hin := phi0_intro m Z) (hout := phi1_exit m Z)
    (QY := Left m Z)
    (hY := fun c s => read_left m Z c s hwf)
    (hQ := fun r h hs => ⟨fun c => ⟨((h c).1 (0 : Fin 1)).trans ((dats m Z 0 c).arrAt_in (0 : Fin 1) rfl _), (h c).2.2.1, (h c).2.2.2.1⟩,
      sem_eq_zero hs fun c => (h c).2.2.2.2⟩)
end
end Cert.KProof
-- ==== Proof.Silu.lean ====
/-
# The epilogue over the extended reals

The kernel multiplies by the logistic function, the reference divides by one plus an exponential.
-/
module

public import Idealize.ShloMosaic.PureOps.Ideal
public import Idealize.ShloMosaic.PureOps.Ideal.Laws

@[expose] public section

noncomputable section

namespace Cert.KProof

open Idealize.ShloMosaic

/-- `y` times the logistic function of `y`. -/
def silu (y : EReal) : EReal := y * Ideal.logistic y

/-- One plus an exponential isn't zero. -/
theorem one_add_exp_ne (z : EReal) : (1 : EReal) + Ideal.exp z ≠ 0 := by
  have h : (0 : EReal) ≤ Ideal.exp z := by
    induction z using EReal.rec with
    | bot => rw [Ideal.exp_bot]
    | top => rw [Ideal.exp_top]; exact le_top
    | coe r => rw [Ideal.exp_coe]; exact_mod_cast (Real.exp_pos r).le
  have h1 : (0 : EReal) < 1 + Ideal.exp z := lt_of_lt_of_le zero_lt_one (le_add_of_nonneg_right h)
  exact h1.ne'

/-- The reference's quotient, its bounds infinite, is the kernel's product. -/
theorem quotient_silu (y : EReal) : Ideal.div y (1 + Ideal.exp (0 - min ⊤ (max ⊥ y))) = silu y := by
  rw [min_eq_right le_top, max_eq_right bot_le, zero_sub]
  unfold silu Ideal.logistic Ideal.div
  rw [if_neg (one_add_exp_ne _), if_neg (one_add_exp_ne _), one_mul]

end Cert.KProof
-- ==== Proof.Product.lean ====
/-
# What the kernel's tiles are, over the extended reals

Every tile's element is the epilogue of the inner product of a row of `x` with a column of the weights.
-/
module

public import proofs.«01_k».proof.Proof.Main
public import proofs.«01_k».proof.Proof.Silu
public import Idealize.ShloMosaic.Lib.MatmulPlain

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-- The epilogue, at an element. -/
theorem silu_val {H : ℕ} (hc : (⟨2, ![H, 512]⟩ : Shape).ShapeCasts ⟨3, ![1, H, 512]⟩)
    (hsq : (⟨2, ![H, 512]⟩ : Shape).numel = (⟨3, ![1, H, 512]⟩ : Shape).numel)
    (w : FVec Ideal ⟨2, ![H, 512]⟩ .f32) (x : (⟨2, ![H, 512]⟩ : Shape).Idx) :
    shapeCast ⟨3, ![1, H, 512]⟩ (truncf .bf16 (mulf w (logistic w)) bitsLt_bf16_f32) hc (Shape.reshapeEquiv hsq x) = silu (w x) := by
  unfold shapeCast
  rw [Shape.reshapeEquiv_reshapeEquiv, Shape.reshapeEquiv_self]
  rfl

/-- A product, at an element. -/
theorem prod_val {H : ℕ} (v : FVec Ideal ⟨2, ![H, 4096]⟩ .bf16) (u : FVec Ideal S4096x512 .bf16) (x : (⟨2, ![H, 512]⟩ : Shape).Idx) :
    FloatOps.matmul (DotDims.plain H 4096 512) none v u (constant ⟨2, ![H, 512]⟩ .f32 0x00000000#32) x = ∑ k : Fin 4096, v (ix2 (x 0) k) * u (ix2 k (x 1)) := by
  conv_lhs => rw [eq_ix2 x]
  refine (Ideal.matmul_plain_apply none v u _ (x 0) (x 1)).trans ?_
  have h0 : (constant ⟨2, ![H, 512]⟩ .f32 0x00000000#32 : FVec Ideal ⟨2, ![H, 512]⟩ .f32) (ix2 (x 0) (x 1)) = 0 := Ideal.ofBits_zero_f32
  rw [h0, zero_add]

/-- What the result's element at `p` is on device `c`, from all devices' rows of `x` and its own columns of the weights. -/
def want (xb : Dev nD → Vec Ideal S1024x4096 .bf16) (wf : Dev nD → Vec Ideal S4096x2048 .f32) (c : Dev nD) (p : S4096x2048.Idx) : EReal :=
  silu (∑ k : Fin 4096, (xb ⟨(p 0).val / 1024, by have : (p 0).val < 4096 := (p 0).isLt; show (p 0).val / 1024 < 4; omega⟩
      (ix2 (⟨(p 0).val % 1024, Nat.mod_lt _ (by decide)⟩ : Fin 1024) k) : EReal) * wf c (ix2 k (p 1)))

/-- Tiles whose elements are inner products' epilogues fit. -/
theorem fits_want (xb : Dev nD → Vec Ideal S1024x4096 .bf16) (wf : Dev nD → Vec Ideal S4096x2048 .f32) {H : ℕ}
    (hsq : (⟨2, ![H, 512]⟩ : Shape).numel = (⟨3, ![1, H, 512]⟩ : Shape).numel)
    (pay : Vec Ideal ⟨2, ![H, 4096]⟩ .bf16 → Vec Ideal S4096x512 .bf16 → Vec Ideal ⟨3, ![1, H, 512]⟩ .bf16)
    (hpay : ∀ v u x, pay v u (Shape.reshapeEquiv hsq x) = silu (∑ k : Fin 4096, (v (ix2 (x 0) k) : EReal) * u (ix2 k (x 1)))) :
    FitsAt xb wf (fun c p y => y = want xb wf c p) H hsq pay := by
  intro c d a b ha hb ho v u hv hu x
  refine (hpay v u x).trans ?_
  unfold want
  refine congrArg silu (Finset.sum_congr rfl fun k _ => ?_)
  have hx : (x 0).val < H := (x 0).isLt
  have ha0 : a + H ≤ 1024 := ha 0
  rw [hv, hu]
  refine congrArg₂ (fun s t : EReal => s * t) ?_ ?_
  · have hd : (⟨(((Rect.unit (s := S4096x2048) ![1024 * d.val + a, b] ![H, 512] ho).emb x) 0).val / 1024, by
        have : (((Rect.unit (s := S4096x2048) ![1024 * d.val + a, b] ![H, 512] ho).emb x) 0).val < 4096 := Fin.isLt _
        show _ / 1024 < 4; omega⟩ : Dev nD) = d := Fin.ext (by
      show (1024 * d.val + a + 1 * (x 0).val) / 1024 = d.val
      omega)
    rw [hd]
    refine congrArg (xb d) (funext fun i => Fin.ext ?_)
    match i with
    | ⟨0, _⟩ =>
      show a + 1 * (x 0).val = (1024 * d.val + a + 1 * (x 0).val) % 1024
      omega
    | ⟨1, _⟩ =>
      show 0 + 1 * k.val = k.val
      omega
  · refine congrArg (wf c) (funext fun i => Fin.ext ?_)
    match i with
    | ⟨0, _⟩ =>
      show 0 + 1 * k.val = k.val
      omega
    | ⟨1, _⟩ => rfl

/-- The five heights' payloads. -/
def idealSpec (xb : Dev nD → Vec Ideal S1024x4096 .bf16) (wf : Dev nD → Vec Ideal S4096x2048 .f32) : Spec Ideal where
  xb := xb
  wf := wf
  RO c p y := y = want xb wf c p
  f1024 := fits_want xb wf _ _ fun v u x => by
    have hv : shapeCast S1024x4096 v shapeCasts_S1024x4096_S1024x4096 = v := cast_same v _
    refine Eq.trans ?_ ((silu_val shapeCasts_S1024x512_S1x1024x512 squeezes_S1x1024x512_S1024x512.numel_eq _ x).trans (congrArg silu (prod_val v u x)))
    unfold k0_pay2
    rw [hv]; rfl
  f512 := fits_want xb wf _ _ fun v u x => (silu_val shapeCasts_S512x512_S1x512x512 _ _ x).trans (congrArg silu (prod_val v u x))
  f256 := fits_want xb wf _ _ fun v u x => (silu_val shapeCasts_S256x512_S1x256x512 _ _ x).trans (congrArg silu (prod_val v u x))
  f192 := fits_want xb wf _ _ fun v u x => (silu_val shapeCasts_S192x512_S1x192x512 _ _ x).trans (congrArg silu (prod_val v u x))
  f64 := fits_want xb wf _ _ fun v u x => (silu_val shapeCasts_S64x512_S1x64x512 _ _ x).trans (congrArg silu (prod_val v u x))

/-- Nothing is said of the result, at any floats. -/
def anySpec {F : FTy → Type} [FloatOps F] (xb : Dev nD → Vec F S1024x4096 .bf16) (wf : Dev nD → Vec F S4096x2048 .f32) : Spec F where
  xb := xb
  wf := wf
  RO _ _ _ := True
  f1024 := fun _ _ _ _ _ _ _ _ _ _ _ _ => trivial
  f512 := fun _ _ _ _ _ _ _ _ _ _ _ _ => trivial
  f256 := fun _ _ _ _ _ _ _ _ _ _ _ _ => trivial
  f192 := fun _ _ _ _ _ _ _ _ _ _ _ _ => trivial
  f64 := fun _ _ _ _ _ _ _ _ _ _ _ _ => trivial

end Cert.KProof
-- ==== Proof.Ref.lean ====
/-
# The reference's array

The reference's result is, at every element, the epilogue of the inner product of a row of `x` with a column of the
weights: its bounds of the clip are read as the infinities.
-/
module

public import proofs.«01_k».proof.Proof.Silu
public import proofs.«01_k».proof.Proof.Gen.ReferenceIdeal.Value
public import Idealize.ShloMosaic.Lib.MatmulPlain
public import Idealize.ShloMosaic.Lib.StackMember
public import Idealize.ShloMosaic.Lib.Claim
public import Idealize.ShloMosaic.Lib.Pipeline.ValueKit

@[expose] public section

noncomputable section

namespace Cert.KProof.Ref

open Cert.ReferenceIdeal Cert.ReferenceIdeal.Gen
open Idealize.ShloMosaic Idealize.ShloMosaic.TcCoe Idealize.SL.Sem

/-- What the reference computes of whole arrays. -/
def out (X : Vec Ideal S4096x4096 .bf16) (W : Vec Ideal S4096x8192 .f32) (i : S4096x8192.Idx) : EReal :=
  silu (∑ k : Fin 4096, (X (ValueIdx.ix2 (i 0) k) : EReal) * W (ValueIdx.ix2 k (i 1)))

variable (m : (ℓ : Loc nD τ sig) → Buf (Elt Ideal) ℓ) (ρ : Dev nD → PrngReg) (c : Dev nD)

/-- The whole first operand. -/
abbrev wholeX : Vec Ideal S4096x4096 .bf16 := m ((c : Thread nD τ).loc main_arg0)

/-- The whole second operand. -/
abbrev wholeW : Vec Ideal S4096x8192 .f32 := m ((c : Thread nD τ).loc main_arg1)

/-- The region finds the product in its operand. -/
theorem operand (i : S4096x8192.Idx) : (V m c main_v1 : Vec Ideal S4096x8192 .f32) i
    = (∑ k : Fin 4096, (wholeX m c (ValueIdx.ix2 (i 0) k) : EReal) * wholeW m c (ValueIdx.ix2 k (i 1)) : EReal) := by
  have h : (V m c main_v1 : Vec Ideal S4096x8192 .f32)
      = Host.dotGeneral (F := Ideal) (φ₁ := .f32) (φ₂ := .f32) (DotDims.plain 4096 4096 8192) none (wholeX m c) (wholeW m c) := by
    unfold V hostOps0
    after_results
    rfl
  rw [h]
  obtain ⟨a, b, rfl⟩ : ∃ a b, i = ValueIdx.ix2 a b := ⟨i 0, i 1, by funext ax; match ax with | ⟨0, _⟩ => rfl | ⟨1, _⟩ => rfl⟩
  exact StackMember.dotGeneral_plain_apply none _ _ a b

/-- The region's payload at an index. -/
theorem entry (P : Vec Ideal S4096x8192 .f32) (i : S4096x8192.Idx) : Cert.ReferenceIdeal.Value.E1 P i = silu (P i) := by
  have e : Cert.ReferenceIdeal.Value.ix1_0 i = i := by funext ax; match ax with | ⟨0, _⟩ => rfl | ⟨1, _⟩ => rfl
  refine Eq.trans ?_ (quotient_silu (P i))
  unfold Cert.ReferenceIdeal.Value.E1
  show Ideal.div (P (Cert.ReferenceIdeal.Value.ix1_0 i)) (Scalar.ofBits (F := Ideal) .f32 0x3F800000#32 + Ideal.exp (Scalar.ofBits (F := Ideal) .f32 0x00000000#32 - min (⊤ : EReal) (max (⊥ : EReal) (P (Cert.ReferenceIdeal.Value.ix1_0 i))))) = _
  rw [e, show Scalar.ofBits (F := Ideal) .f32 0x3F800000#32 = (1 : EReal) from Ideal.ofBits_one_f32, show Scalar.ofBits (F := Ideal) .f32 0x00000000#32 = (0 : EReal) from Ideal.ofBits_zero_f32]

/-- The region's array after the run. -/
theorem array : ((dats m 0 c).arrAt 1 cfg0.N : Vec Ideal S4096x8192 .bf16) = out (wholeX m c) (wholeW m c) := by
  refine (dats m 0 c).arrAt_eq_of_after_last 1 t0_0 (by decide +kernel) _ fun j => ?_
  blk_simp
  rw [after0_1]
  unfold out0_1
  refine (Cert.ReferenceIdeal.Value.canon1_eq _ j).trans ((entry _ _).trans ?_)
  refine congrArg silu (Eq.trans ?_ (operand m c j))
  show V m c main_v1 _ = V m c main_v1 j
  refine congrArg _ (funext fun ax => Fin.ext ?_)
  match ax with
  | ⟨0, _⟩ => show 0 * 4096 + 1 * (0 + 1 * (j 0).val) = (j 0).val; omega
  | ⟨1, _⟩ => show 0 * 8192 + 1 * (0 + 1 * (j 1).val) = (j 1).val; omega

end Cert.KProof.Ref
-- ==== Proof.Agree.lean ====
/-
# The kernel's blocks are the reference's

Row `r` of the whole `x` is row `r % 1024` of the block of device `r / 1024`, and column `j` of device `c`'s weights is
column `2048 c + j` of the whole; so what the kernel should leave on a device is that device's columns of what the
reference computes.
-/
module

public import proofs.«01_k».proof.Proof.Product
public import proofs.«01_k».proof.Proof.Ref
public import Idealize.ShloMosaic.Lib.Layout

@[expose] public section

noncomputable section

namespace Cert.KProof

open Cert.KernelIdeal Cert.KernelIdeal.Gen
open Idealize.ShloMosaic Idealize.ShloMosaic.TcCoe Idealize.SL.Sem

variable {F : FTy → Type} [FloatOps F]

/-- A device's shard of `x` is staged whole. -/
theorem xstg_apply (m : (ℓ : Loc nD τ sig) → Buf (Elt F) ℓ) (c : Dev nD) (i : S1024x4096.Idx) :
    xstg m c i = (m ((c : Thread nD τ).loc main_arg0) : Vec F S1024x4096 .bf16) i := by
  show (m ((c : Thread nD τ).loc main_arg0) : Vec F S1024x4096 .bf16) _ = _
  refine congrArg _ (funext fun ax => Fin.ext ?_)
  match ax with
  | ⟨0, _⟩ => show 0 * 1024 + 1 * (i 0).val = (i 0).val; omega
  | ⟨1, _⟩ => show 0 * 4096 + 1 * (i 1).val = (i 1).val; omega

/-- What a device should hold is its columns of the reference's array. -/
theorem want_block (m : (ℓ : Loc nD τ sig) → Buf (Elt Ideal) ℓ)
    (X : Vec Ideal ⟨2, ![4096, 4096]⟩ .bf16) (W : Vec Ideal ⟨2, ![4096, 8192]⟩ .f32)
    (hX : Layout.Tiles ⟨2, ![1024, 4096]⟩ ⟨2, ![4096, 4096]⟩ 0 4) (hW : Layout.Tiles ⟨2, ![4096, 2048]⟩ ⟨2, ![4096, 8192]⟩ 1 4)
    (hx : ∀ c : Dev nD, (m ((c : Thread nD τ).loc main_arg0) : Vec Ideal S1024x4096 .bf16) = Layout.block _ _ 0 4 c X hX)
    (hw : ∀ c : Dev nD, (m ((c : Thread nD τ).loc main_arg1) : Vec Ideal S4096x2048 .f32) = Layout.block _ _ 1 4 c W hW)
    (c : Dev nD) (p : S4096x2048.Idx) :
    want (xstg m) (wmem m) c p = Layout.block ⟨2, ![4096, 2048]⟩ ⟨2, ![4096, 8192]⟩ 1 4 c (Ref.out X W) hW p := by
  show _ = Ref.out X W (hW.idx c p)
  unfold want Ref.out
  refine congrArg silu (Finset.sum_congr rfl fun k _ => congrArg₂ (fun s t : EReal => s * t) ?_ ?_)
  · rw [xstg_apply, hx]
    refine congrArg X (funext fun ax => Fin.ext ?_)
    match ax with
    | ⟨0, _⟩ => show (p 0).val / 1024 * 1024 + (p 0).val % 1024 = (p 0).val; omega
    | ⟨1, _⟩ => rfl
  · unfold wmem
    rw [hw]
    refine congrArg W (funext fun ax => Fin.ext ?_)
    match ax with
    | ⟨0, _⟩ => rfl
    | ⟨1, _⟩ => rfl

end Cert.KProof
-- ==== Proof.Text.lean ====
/-
# One text

The kernel as printed and its idealization are the same text, so their tables of bodies agree at the machine's floats.
-/
module

public import proofs.«01_k».proof.Defs
public import proofs.«01_k».proof.Proof.Gen.Kernel
public import proofs.«01_k».proof.Proof.Gen.KernelIdeal

@[expose] public section

noncomputable section

namespace Cert.KProof

open Idealize.ShloMosaic Idealize.SL.Sem

attribute [local instance] Cert.Kernel.Gen.facts Cert.KernelIdeal.Gen.facts

/-- The bodies by label: there is one label, and its two bodies are one text. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- The tables with the regions' pipelines. -/
theorem same_defs : Cert.Kernel.defs (F := Bits) = Cert.KernelIdeal.defs (F := Bits) := by
  unfold Cert.Kernel.defs Cert.KernelIdeal.defs
  exact congrArg (Pipeline.defs Cert.KernelIdeal.pcfgs) same_bodies

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Main
public import proofs.«01_k».proof.Proof.Product
public import proofs.«01_k».proof.Proof.Ref
public import proofs.«01_k».proof.Proof.Agree
public import proofs.«01_k».proof.Proof.Text
public import Idealize.ShloMosaic.Adequacy
public import Idealize.ShloMosaic.Init

@[expose] public section

noncomputable section

namespace Cert.Proof

open Idealize.ShloMosaic Idealize.SL.Sem Cert.Kernel

/-- The idealized kernel runs, its arguments unchanged and every counter back at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩)
    (KProof.run_main (F := Ideal) m ρ (KProof.anySpec _ _) (fun _ => rfl) fun _ => rfl)

/-- The kernel as printed is the same program read at the machine's floats. -/
theorem frame_kernel : Cert.quiescent_Kernel (hKernel := Cert.Kernel.Gen.facts) := by
  intro m ρ _
  rw [KProof.same_defs]
  exact (θ_run Cert.KernelIdeal.defs _ _).mono
    (Q' := fun r => (∀ c : Dev nD, r.2.mem (c.tc.loc main_arg0) = m (c.tc.loc main_arg0)
      ∧ r.2.mem (c.tc.loc main_arg1) = m (c.tc.loc main_arg1)) ∧ r.2.sem = fun _ => 0)
    (fun _ h => ⟨fun c => ⟨(h.1 c).1, (h.1 c).2.1⟩, h.2⟩)
    (KProof.run_main (F := Bits) m ρ (KProof.anySpec _ _) (fun _ => rfl) fun _ => rfl)

/-- The kernel's blocks are the blocks of the reference's array. -/
theorem same : Cert.algebraic_KernelIdeal_ReferenceIdeal (hKernelIdeal := Cert.KernelIdeal.Gen.facts)
    (hReferenceIdeal := Cert.ReferenceIdeal.Gen.facts) := fun m g m' g' _ hm =>
  ⟨KProof.Ref.out (KProof.Ref.wholeX m' 0) (KProof.Ref.wholeW m' 0),
    (θ_run Cert.KernelIdeal.defs _ _).mono
      (fun _ h c => ⟨funext fun p => (h.1 c).2.2 p |>.trans
          (KProof.want_block m _ _ _ _ (fun d => (hm d).1) (fun d => (hm d).2) c p), (h.1 c).1, (h.1 c).2.1⟩)
      (KProof.run_main (F := Ideal) m g (KProof.idealSpec (KProof.xstg m) (KProof.wmem m)) (fun _ => rfl) fun _ => rfl),
    (θ_run Cert.ReferenceIdeal.defs _ _).mono
      (fun _ h => ⟨(h 0).1.trans (KProof.Ref.array m' 0), (h 0).2.1, (h 0).2.2⟩)
      (Cert.ReferenceIdeal.Value.run_blocks m' g')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, same⟩

end Cert.Proof

end
